-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_varied [hPre_finite_varied : Cert.Pre_finite_varied.Facts] (m : (ℓ : Loc Cert.KernelIdeal.nD Cert.KernelIdeal.τ Cert.KernelIdeal.sig) → Buf (Elt Ideal) ℓ) : Prop :=
  ∀ c : Dev Cert.KernelIdeal.nD,
    (Cert.Pre_finite_varied.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_varied [hPre_finite_varied : Cert.Pre_finite_varied.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_varied.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite_varied [hKernelIdeal : Cert.KernelIdeal.Facts] [hPre_finite_varied : Cert.Pre_finite_varied.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_varied m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite_varied [hReferenceIdeal : Cert.ReferenceIdeal.Facts] [hPre_finite_varied : Cert.Pre_finite_varied.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_varied m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite_varied [hKernelIdeal : Cert.KernelIdeal.Facts] [hReferenceIdeal : Cert.ReferenceIdeal.Facts] [hPre_finite_varied : Cert.Pre_finite_varied.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_varied m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v38_0)) (v1 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38_0) = v0 c
          ∧ r.2.mem ((c.tc : Thread Cert.KernelIdeal.nD Cert.KernelIdeal.τ).loc Cert.KernelIdeal.main_v39) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7_6) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_varied : Cert.Pre_finite_varied.Facts),
    quiescent_Kernel (hKernel := hKernel)
    ∧ quiescent_KernelIdeal (hKernelIdeal := hKernelIdeal)
    ∧ quiescent_KernelIdeal_pre_finite_varied (hKernelIdeal := hKernelIdeal) (hPre_finite_varied := hPre_finite_varied)
    ∧ quiescent_ReferenceIdeal (hReferenceIdeal := hReferenceIdeal)
    ∧ quiescent_ReferenceIdeal_pre_finite_varied (hReferenceIdeal := hReferenceIdeal) (hPre_finite_varied := hPre_finite_varied)
    ∧ preserves_Kernel_KernelIdeal
    ∧ algebraic_KernelIdeal_ReferenceIdeal_pre_finite_varied (hKernelIdeal := hKernelIdeal) (hReferenceIdeal := hReferenceIdeal) (hPre_finite_varied := hPre_finite_varied)
-- ==== Pre_finite_varied.lean ====
abbrev S32768x1024 : Shape := ⟨2, ![32768, 1024]⟩
abbrev S_ : Shape := ⟨0, ![]⟩
abbrev S1x1024 : Shape := ⟨2, ![1, 1024]⟩
abbrev S1024 : Shape := ⟨1, ![1024]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  slices_S32768x1024_S1x1024_0_0 : S32768x1024.Slices ![0, 0] S1x1024
  bcast_S1x1024_S32768x1024_0_1 : S1x1024.BroadcastsInDim S32768x1024 (![0, 1] : Fin 2 → Fin S32768x1024.rank)
  reducesTo_S32768x1024_S1024_d0 : S32768x1024.ReducesTo [0] S1024
  reducesTo_S1024_S_d0 : S1024.ReducesTo [0] S_

variable [Facts]

def fn {F : FTy → Type} [FloatOps F] (main_arg0 : FVec F S32768x1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S1x1024 .f32 := (extractStridedSlice S1x1024 ![0, 0] · slices_S32768x1024_S1x1024_0_0) main_arg0
  let main_v5 : FVec F S32768x1024 .f32 := broadcastInDim S32768x1024 ![0, 1] bcast_S1x1024_S32768x1024_0_1 main_v4
  let main_v6 : IVec S32768x1024 1 := cmpf .une main_arg0 main_v5
  let main_c_0 : IVec S_ 1 := constantI S_ 1 0#1
  let main_v7 : IVec S1024 1 := (fun x v => Host.reduce IntOp.ori x v reducesTo_S32768x1024_S1024_d0 h_S_) main_v6 main_c_0
  let main_c_1 : IVec S_ 1 := constantI S_ 1 1#1
  let main_v8 : IVec S_ 1 := (fun x v => Host.reduce IntOp.andi x v reducesTo_S1024_S_d0 h_S_) main_v7 main_c_1
  let main_v9 : IVec S_ 1 := andi main_v3 main_v8
  main_v9
-- ==== Kernel.lean ====
abbrev S32768x1024 : Shape := ⟨2, ![32768, 1024]⟩
abbrev S2x1024 : Shape := ⟨2, ![2, 1024]⟩
abbrev S1024x512 : Shape := ⟨2, ![1024, 512]⟩
abbrev S2x512 : Shape := ⟨2, ![2, 512]⟩
abbrev S1x512 : Shape := ⟨2, ![1, 512]⟩
abbrev S512 : Shape := ⟨1, ![512]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S32768x2x1024 : Shape := ⟨3, ![32768, 2, 1024]⟩
abbrev S512x512 : Shape := ⟨2, ![512, 512]⟩
abbrev S512x2x512 : Shape := ⟨3, ![512, 2, 512]⟩
abbrev S256x512 : Shape := ⟨2, ![256, 512]⟩
abbrev S256x1x512 : Shape := ⟨3, ![256, 1, 512]⟩
abbrev S32768x2048 : Shape := ⟨2, ![32768, 2048]⟩

abbrev nBuf : Space → Nat
  | .hbm => 59
  | .vmem => 19
  | .smem => 0
  | _ => 0

abbrev bufTy : (tb : Table) → Fin (tcTables nBuf tb) → BufTy
  | .hbm, ⟨0, _⟩ => ⟨S32768x1024, .f32⟩
  | .hbm, ⟨1, _⟩ => ⟨S2x1024, .f32⟩
  | .hbm, ⟨2, _⟩ => ⟨S256, .i32⟩
  | .hbm, ⟨3, _⟩ => ⟨S256x1, .i32⟩
  | .hbm, ⟨4, _⟩ => ⟨S1x256, .i32⟩
  | .hbm, ⟨5, _⟩ => ⟨S256x256, .i32⟩
  | .hbm, ⟨6, _⟩ => ⟨S256x256, .i32⟩
  | .hbm, ⟨7, _⟩ => ⟨S256x256, .i32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .i32⟩
  | .hbm, ⟨15, _⟩ => ⟨S256x256, .i32⟩
  | .hbm, ⟨16, _⟩ => ⟨S256x256, .i32⟩
  | .hbm, ⟨17, _⟩ => ⟨S256x256, .f32⟩
  | .hbm, ⟨18, _⟩ => ⟨S_, .i32⟩
  | .hbm, ⟨19, _⟩ => ⟨S256x256, .i32⟩
  | .hbm, ⟨20, _⟩ => ⟨S256x256, .i1⟩
  | .hbm, ⟨21, _⟩ => ⟨S256x256, .f32⟩
  | .hbm, ⟨22, _⟩ => ⟨S256x256, .f32⟩
  | .hbm, ⟨23, _⟩ => ⟨S_, .f32⟩
  | .hbm, ⟨24, _⟩ => ⟨S256x256, .f32⟩
  | .hbm, ⟨25, _⟩ => ⟨S256x256, .f32⟩
  | .hbm, ⟨26, _⟩ => ⟨S_, .f32⟩
  | .hbm, ⟨27, _⟩ => ⟨S_, .f32⟩
  | .hbm, ⟨28, _⟩ => ⟨S256x256, .f32⟩
  | .hbm, ⟨29, _⟩ => ⟨S256x256, .f32⟩
  | .hbm, ⟨30, _⟩ => ⟨S_, .i32⟩
  | .hbm, ⟨31, _⟩ => ⟨S256x256, .i32⟩
  | .hbm, ⟨32, _⟩ => ⟨S256x256, .i1⟩
  | .hbm, ⟨33, _⟩ => ⟨S256x256, .f32⟩
  | .hbm, ⟨34, _⟩ => ⟨S256x256, .f32⟩
  | .hbm, ⟨35, _⟩ => ⟨S_, .f32⟩
  | .hbm, ⟨36, _⟩ => ⟨S256x256, .f32⟩
  | .hbm, ⟨37, _⟩ => ⟨S256x256, .f32⟩
  | .hbm, ⟨38, _⟩ => ⟨S_, .f32⟩
  | .hbm, ⟨39, _⟩ => ⟨S_, .f32⟩
  | .hbm, ⟨40, _⟩ => ⟨S256x256, .f32⟩
  | .hbm, ⟨41, _⟩ => ⟨S256x256, .f32⟩
  | .hbm, ⟨42, _⟩ => ⟨S256, .f32⟩
  | .hbm, ⟨43, _⟩ => ⟨S_, .f32⟩
  | .hbm, ⟨44, _⟩ => ⟨S256, .f32⟩
  | .hbm, ⟨45, _⟩ => ⟨S256, .f32⟩
  | .hbm, ⟨46, _⟩ => ⟨S256, .f32⟩
  | .hbm, ⟨47, _⟩ => ⟨S256, .f32⟩
  | .hbm, ⟨48, _⟩ => ⟨S256, .f32⟩
  | .hbm, ⟨49, _⟩ => ⟨S_, .f32⟩
  | .hbm, ⟨50, _⟩ => ⟨S256, .f32⟩
  | .hbm, ⟨51, _⟩ => ⟨S256, .f32⟩
  | .hbm, ⟨52, _⟩ => ⟨S256, .f32⟩
  | .hbm, ⟨53, _⟩ => ⟨S256, .f32⟩
  | .hbm, ⟨54, _⟩ => ⟨S256x1, .f32⟩
  | .hbm, ⟨55, _⟩ => ⟨S256x1, .f32⟩
  | .hbm, ⟨56, _⟩ => ⟨S32768x1024, .f32⟩
  | .hbm, ⟨57, _⟩ => ⟨S32768x2x1024, .f32⟩
  | .hbm, ⟨58, _⟩ => ⟨S32768x2048, .f32⟩
  | .local _ .vmem, ⟨0, _⟩ => ⟨S1024x512, .f32⟩
  | .local _ .vmem, ⟨1, _⟩ => ⟨S1024x512, .f32⟩
  | .local _ .vmem, ⟨2, _⟩ => ⟨S2x512, .f32⟩
  | .local _ .vmem, ⟨3, _⟩ => ⟨S2x512, .f32⟩
  | .local _ .vmem, ⟨4, _⟩ => ⟨S2x512, .f32⟩
  | .local _ .vmem, ⟨5, _⟩ => ⟨S512x512, .f32⟩
  | .local _ .vmem, ⟨6, _⟩ => ⟨S512x512, .f32⟩
  | .local _ .vmem, ⟨7, _⟩ => ⟨S2x512, .f32⟩
  | .local _ .vmem, ⟨8, _⟩ => ⟨S2x512, .f32⟩
  | .local _ .vmem, ⟨9, _⟩ => ⟨S256x256, .f32⟩
  | .local _ .vmem, ⟨10, _⟩ => ⟨S256x256, .f32⟩
  | .local _ .vmem, ⟨11, _⟩ => ⟨S256x1, .f32⟩
  | .local _ .vmem, ⟨12, _⟩ => ⟨S256x1, .f32⟩
  | .local _ .vmem, ⟨13, _⟩ => ⟨S512x512, .f32⟩
  | .local _ .vmem, ⟨14, _⟩ => ⟨S512x512, .f32⟩
  | .local _ .vmem, ⟨15, _⟩ => ⟨S512x2x512, .f32⟩
  | .local _ .vmem, ⟨16, _⟩ => ⟨S512x2x512, .f32⟩
  | .local _ .vmem, ⟨17, _⟩ => ⟨S1x512, .f32⟩
  | .local _ .vmem, ⟨18, _⟩ => ⟨S1x512, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_cst_0 : Ref sig .tc := ⟨.hbm, 9, rfl⟩
abbrev main_v7 : Ref sig .tc := ⟨.hbm, 10, rfl⟩
abbrev main_cst_1 : Ref sig .tc := ⟨.hbm, 11, rfl⟩
abbrev main_cst_2 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_3 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_v17 : Ref sig .tc := ⟨.hbm, 25, rfl⟩
abbrev main_cst_5 : Ref sig .tc := ⟨.hbm, 26, rfl⟩
abbrev main_call0_v0 : Ref sig .tc := ⟨.hbm, 27, rfl⟩
abbrev main_call0_v1 : Ref sig .tc := ⟨.hbm, 28, rfl⟩
abbrev main_v18 : Ref sig .tc := ⟨.hbm, 29, rfl⟩
abbrev main_c_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_call1_v0 : Ref sig .tc := ⟨.hbm, 39, rfl⟩
abbrev main_call1_v1 : Ref sig .tc := ⟨.hbm, 40, rfl⟩
abbrev main_v25 : Ref sig .tc := ⟨.hbm, 41, rfl⟩
abbrev main_v26 : Ref sig .tc := ⟨.hbm, 42, rfl⟩
abbrev main_cst_9 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_10 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38_0 : Ref sig .tc := ⟨.hbm, 56, rfl⟩
abbrev main_v38_1 : Ref sig .tc := ⟨.hbm, 57, rfl⟩
abbrev main_v39 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg6_1 : Ref sig .tc := ⟨.vmem, 14, rfl⟩
abbrev cc1_stg7_0 : Ref sig .tc := ⟨.vmem, 15, rfl⟩
abbrev cc1_stg7_1 : Ref sig .tc := ⟨.vmem, 16, rfl⟩
abbrev cc1_scratch0 : Ref sig .tc := ⟨.vmem, 17, rfl⟩
abbrev cc1_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem6_1 : DmaSem sig := 13
abbrev cc1_sem7_0 : DmaSem sig := 14
abbrev cc1_sem7_1 : DmaSem sig := 15

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v19 : BitVec 1 := Scalar.cmpi .eq arg1 c31_i32
  let v20 : BitVec 32 := Scalar.extui v19
  let c0_i32_10 : BitVec 32 := 0#32
  let v21 : BitVec 1 := Scalar.cmpi .ne v20 c0_i32_10
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![2, 64], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S256x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S256x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S512x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S512x2x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]
-- ==== ReferenceIdeal.lean ====
abbrev S32768x1024 : Shape := ⟨2, ![32768, 1024]⟩
abbrev S_ : Shape := ⟨0, ![]⟩
abbrev S1024 : Shape := ⟨1, ![1024]⟩
abbrev S1x1024 : Shape := ⟨2, ![1, 1024]⟩
abbrev S32768x2048 : Shape := ⟨2, ![32768, 2048]⟩

abbrev nBuf : Space → Nat
  | .hbm => 81
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S_, .f32⟩
  | .hbm, ⟨2, _⟩ => ⟨S1024, .f32⟩
  | .hbm, ⟨3, _⟩ => ⟨S_, .f32⟩
  | .hbm, ⟨4, _⟩ => ⟨S1024, .f32⟩
  | .hbm, ⟨5, _⟩ => ⟨S1024, .f32⟩
  | .hbm, ⟨6, _⟩ => ⟨S_, .i32⟩
  | .hbm, ⟨7, _⟩ => ⟨S_, .f32⟩
  | .hbm, ⟨8, _⟩ => ⟨S1024, .f32⟩
  | .hbm, ⟨9, _⟩ => ⟨S1x1024, .f32⟩
  | .hbm, ⟨10, _⟩ => ⟨S_, .f32⟩
  | .hbm, ⟨11, _⟩ => ⟨S1x1024, .f32⟩
  | .hbm, ⟨12, _⟩ => ⟨S1x1024, .f32⟩
  | .hbm, ⟨13, _⟩ => ⟨S32768x1024, .f32⟩
  | .hbm, ⟨14, _⟩ => ⟨S32768x1024, .f32⟩
  | .hbm, ⟨15, _⟩ => ⟨S32768x1024, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S1024, .f32⟩
  | .hbm, ⟨21, _⟩ => ⟨S1024, .f32⟩
  | .hbm, ⟨22, _⟩ => ⟨S1024, .f32⟩
  | .hbm, ⟨23, _⟩ => ⟨S_, .f32⟩
  | .hbm, ⟨24, _⟩ => ⟨S_, .i1⟩
  | .hbm, ⟨25, _⟩ => ⟨S_, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S1024, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S32768x1024, .f32⟩
  | .hbm, ⟨34, _⟩ => ⟨S_, .f32⟩
  | .hbm, ⟨35, _⟩ => ⟨S32768x1024, .f32⟩
  | .hbm, ⟨36, _⟩ => ⟨S_, .f32⟩
  | .hbm, ⟨37, _⟩ => ⟨S32768x1024, .f32⟩
  | .hbm, ⟨38, _⟩ => ⟨S_, .i32⟩
  | .hbm, ⟨39, _⟩ => ⟨S32768x1024, .f32⟩
  | .hbm, ⟨40, _⟩ => ⟨S_, .f32⟩
  | .hbm, ⟨41, _⟩ => ⟨S_, .f32⟩
  | .hbm, ⟨42, _⟩ => ⟨S_, .i32⟩
  | .hbm, ⟨43, _⟩ => ⟨S1024, .f32⟩
  | .hbm, ⟨44, _⟩ => ⟨S1024, .f32⟩
  | .hbm, ⟨45, _⟩ => ⟨S32768x1024, .f32⟩
  | .hbm, ⟨46, _⟩ => ⟨S32768x1024, .f32⟩
  | .hbm, ⟨47, _⟩ => ⟨S32768x1024, .f32⟩
  | .hbm, ⟨48, _⟩ => ⟨S_, .i32⟩
  | .hbm, ⟨49, _⟩ => ⟨S_, .i1⟩
  | .hbm, ⟨50, _⟩ => ⟨S_, .i32⟩
  | .hbm, ⟨51, _⟩ => ⟨S1x1024, .f32⟩
  | .hbm, ⟨52, _⟩ => ⟨S1024, .f32⟩
  | .hbm, ⟨53, _⟩ => ⟨S1024, .f32⟩
  | .hbm, ⟨54, _⟩ => ⟨S1024, .f32⟩
  | .hbm, ⟨55, _⟩ => ⟨S1024, .f32⟩
  | .hbm, ⟨56, _⟩ => ⟨S1024, .f32⟩
  | .hbm, ⟨57, _⟩ => ⟨S_, .f32⟩
  | .hbm, ⟨58, _⟩ => ⟨S_, .f32⟩
  | .hbm, ⟨59, _⟩ => ⟨S1024, .f32⟩
  | .hbm, ⟨60, _⟩ => ⟨S1024, .f32⟩
  | .hbm, ⟨61, _⟩ => ⟨S1024, .f32⟩
  | .hbm, ⟨62, _⟩ => ⟨S1024, .f32⟩
  | .hbm, ⟨63, _⟩ => ⟨S1024, .f32⟩
  | .hbm, ⟨64, _⟩ => ⟨S1024, .f32⟩
  | .hbm, ⟨65, _⟩ => ⟨S1024, .f32⟩
  | .hbm, ⟨66, _⟩ => ⟨S1024, .f32⟩
  | .hbm, ⟨67, _⟩ => ⟨S1024, .f32⟩
  | .hbm, ⟨68, _⟩ => ⟨S1024, .f32⟩
  | .hbm, ⟨69, _⟩ => ⟨S1x1024, .f32⟩
  | .hbm, ⟨70, _⟩ => ⟨S_, .i32⟩
  | .hbm, ⟨71, _⟩ => ⟨S32768x1024, .f32⟩
  | .hbm, ⟨72, _⟩ => ⟨S1x1024, .f32⟩
  | .hbm, ⟨73, _⟩ => ⟨S_, .i32⟩
  | .hbm, ⟨74, _⟩ => ⟨S32768x1024, .f32⟩
  | .hbm, ⟨75, _⟩ => ⟨S1x1024, .f32⟩
  | .hbm, ⟨76, _⟩ => ⟨S_, .i32⟩
  | .hbm, ⟨77, _⟩ => ⟨S32768x1024, .f32⟩
  | .hbm, ⟨78, _⟩ => ⟨S_, .i32⟩
  | .hbm, ⟨79, _⟩ => ⟨S_, .i32⟩
  | .hbm, ⟨80, _⟩ => ⟨S32768x2048, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_call0_cst : Ref sig .tc := ⟨.hbm, 7, rfl⟩
abbrev main_call0_call0_v0 : Ref sig .tc := ⟨.hbm, 8, rfl⟩
abbrev main_call0_call0_v1 : Ref sig .tc := ⟨.hbm, 9, rfl⟩
abbrev main_call0_call0_cst_0 : Ref sig .tc := ⟨.hbm, 10, rfl⟩
abbrev main_call0_call0_v2 : Ref sig .tc := ⟨.hbm, 11, rfl⟩
abbrev main_call0_call0_v3 : Ref sig .tc := ⟨.hbm, 12, rfl⟩
abbrev main_call0_call0_v4 : Ref sig .tc := ⟨.hbm, 13, rfl⟩
abbrev main_call0_call0_v5 : Ref sig .tc := ⟨.hbm, 14, rfl⟩
abbrev main_call0_call0_v6 : Ref sig .tc := ⟨.hbm, 15, rfl⟩
abbrev main_call0_call0_v7 : Ref sig .tc := ⟨.hbm, 16, rfl⟩
abbrev main_call0_call0_cst_1 : Ref sig .tc := ⟨.hbm, 17, rfl⟩
abbrev main_call0_call0_v8 : Ref sig .tc := ⟨.hbm, 18, rfl⟩
abbrev main_call0_call0_cst_2 : Ref sig .tc := ⟨.hbm, 19, rfl⟩
abbrev main_call0_call0_v9 : Ref sig .tc := ⟨.hbm, 20, rfl⟩
abbrev main_call0_call0_v10 : Ref sig .tc := ⟨.hbm, 21, rfl⟩
abbrev main_call0_call0_v11 : Ref sig .tc := ⟨.hbm, 22, rfl⟩
abbrev main_call0_call0_cst_3 : Ref sig .tc := ⟨.hbm, 23, rfl⟩
abbrev main_call0_call0_v12 : Ref sig .tc := ⟨.hbm, 24, rfl⟩
abbrev main_call0_call0_cst_4 : Ref sig .tc := ⟨.hbm, 25, rfl⟩
abbrev main_call0_call0_call0_v0 : Ref sig .tc := ⟨.hbm, 26, rfl⟩
abbrev main_call0_call0_call0_v1 : Ref sig .tc := ⟨.hbm, 27, rfl⟩
abbrev main_call0_v0 : Ref sig .tc := ⟨.hbm, 28, rfl⟩
abbrev main_v3 : Ref sig .tc := ⟨.hbm, 29, rfl⟩
abbrev main_cst_1 : Ref sig .tc := ⟨.hbm, 30, rfl⟩
abbrev main_cst_2 : Ref sig .tc := ⟨.hbm, 31, rfl⟩
abbrev main_cst_3 : Ref sig .tc := ⟨.hbm, 32, rfl⟩
abbrev main_v4 : Ref sig .tc := ⟨.hbm, 33, rfl⟩
abbrev main_cst_4 : Ref sig .tc := ⟨.hbm, 34, rfl⟩
abbrev main_v5 : Ref sig .tc := ⟨.hbm, 35, rfl⟩
abbrev main_cst_5 : Ref sig .tc := ⟨.hbm, 36, rfl⟩
abbrev main_v6 : Ref sig .tc := ⟨.hbm, 37, rfl⟩
abbrev main_c_6 : Ref sig .tc := ⟨.hbm, 38, rfl⟩
abbrev main_v7_0 : Ref sig .tc := ⟨.hbm, 39, rfl⟩
abbrev main_v7_1 : Ref sig .tc := ⟨.hbm, 40, rfl⟩
abbrev main_v7_2 : Ref sig .tc := ⟨.hbm, 41, rfl⟩
abbrev main_v7_3 : Ref sig .tc := ⟨.hbm, 42, rfl⟩
abbrev main_v7_4 : Ref sig .tc := ⟨.hbm, 43, rfl⟩
abbrev main_v7_5 : Ref sig .tc := ⟨.hbm, 44, rfl⟩
abbrev main_v7_6 : Ref sig .tc := ⟨.hbm, 45, rfl⟩
abbrev main_v7_7 : Ref sig .tc := ⟨.hbm, 46, rfl⟩
abbrev main_v7_8 : Ref sig .tc := ⟨.hbm, 47, rfl⟩
abbrev main_while0c_c_15 : Ref sig .tc := ⟨.hbm, 48, rfl⟩
abbrev main_while0c_v9 : Ref sig .tc := ⟨.hbm, 49, rfl⟩
abbrev main_while0b_call1_c : Ref sig .tc := ⟨.hbm, 50, rfl⟩
abbrev main_while0b_call1_v0 : Ref sig .tc := ⟨.hbm, 51, rfl⟩
abbrev main_while0b_v9 : Ref sig .tc := ⟨.hbm, 52, rfl⟩
abbrev main_while0b_v10 : Ref sig .tc := ⟨.hbm, 53, rfl⟩
abbrev main_while0b_v11 : Ref sig .tc := ⟨.hbm, 54, rfl⟩
abbrev main_while0b_v12 : Ref sig .tc := ⟨.hbm, 55, rfl⟩
abbrev main_while0b_v13 : Ref sig .tc := ⟨.hbm, 56, rfl⟩
abbrev main_while0b_cst_15 : Ref sig .tc := ⟨.hbm, 57, rfl⟩
abbrev main_while0b_v14 : Ref sig .tc := ⟨.hbm, 58, rfl⟩
abbrev main_while0b_v15 : Ref sig .tc := ⟨.hbm, 59, rfl⟩
abbrev main_while0b_v16 : Ref sig .tc := ⟨.hbm, 60, rfl⟩
abbrev main_while0b_v17 : Ref sig .tc := ⟨.hbm, 61, rfl⟩
abbrev main_while0b_v18 : Ref sig .tc := ⟨.hbm, 62, rfl⟩
abbrev main_while0b_v19 : Ref sig .tc := ⟨.hbm, 63, rfl⟩
abbrev main_while0b_v20 : Ref sig .tc := ⟨.hbm, 64, rfl⟩
abbrev main_while0b_v21 : Ref sig .tc := ⟨.hbm, 65, rfl⟩
abbrev main_while0b_v22 : Ref sig .tc := ⟨.hbm, 66, rfl⟩
abbrev main_while0b_v23 : Ref sig .tc := ⟨.hbm, 67, rfl⟩
abbrev main_while0b_v24 : Ref sig .tc := ⟨.hbm, 68, rfl⟩
abbrev main_while0b_call2_v0 : Ref sig .tc := ⟨.hbm, 69, rfl⟩
abbrev main_while0b_call2_c : Ref sig .tc := ⟨.hbm, 70, rfl⟩
abbrev main_while0b_v25 : Ref sig .tc := ⟨.hbm, 71, rfl⟩
abbrev main_while0b_call3_v0 : Ref sig .tc := ⟨.hbm, 72, rfl⟩
abbrev main_while0b_call3_c : Ref sig .tc := ⟨.hbm, 73, rfl⟩
abbrev main_while0b_v26 : Ref sig .tc := ⟨.hbm, 74, rfl⟩
abbrev main_while0b_call4_v0 : Ref sig .tc := ⟨.hbm, 75, rfl⟩
abbrev main_while0b_call4_c : Ref sig .tc := ⟨.hbm, 76, rfl⟩
abbrev main_while0b_v27 : Ref sig .tc := ⟨.hbm, 77, rfl⟩
abbrev main_while0b_c_16 : Ref sig .tc := ⟨.hbm, 78, rfl⟩
abbrev main_while0b_v28 : Ref sig .tc := ⟨.hbm, 79, rfl⟩
abbrev main_v8 : Ref sig .tc := ⟨.hbm, 80, rfl⟩

abbrev nD : Nat := 1
abbrev τ : Topo := Topo.v7x

variable {F : FTy → Type} [FloatOps F]

abbrev main_while0_count : Scf.Loop 32 := ⟨0#32, 32768#32, 1#32⟩
-- ==== Proof.R0Runs.lean ====
/- The statistics call (region 0): window blocks at entry contents `V`, the branch conditions of its body in closed form, its staging and scratch memrefs. -/
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 32) — by arithmetic of the point. -/
theorem hcond0_0 : ∀ t : Fin cfg0.N, cond0_0 (grid0.coords t) ↔ t.val % 32 = 0 :=
  (fun t => by
    have ht : t.val < 64 := Nat.lt_of_lt_of_eq t.isLt N_0
    have e0 : (grid0.coords t 0).val = t.val / 32 % 2 := Pipeline.Grid.coords_val t 0 (by decide) rfl
    have e1 : (grid0.coords t 1).val = t.val / 1 % 32 := Pipeline.Grid.coords_val t 1 (by decide) rfl
    simp only [cond0_0, e0, e1]
    word_cmp
   : ∀ t : Fin grid0.N, cond0_0 (grid0.coords t) ↔ t.val % 32 = 0)

/-- The condition of the body's `scf.if` 1 (`k0_h2`), from the grid coordinates (the skeleton's scalar
    chain substituted). -/
abbrev cond0_1 (i : grid0.Coords) : Prop := k0_cond2 i = 1#1
/-- It holds at the points ≡ 31 (mod 32) — by arithmetic of the point. -/
theorem hcond0_1 : ∀ t : Fin cfg0.N, cond0_1 (grid0.coords t) ↔ t.val % 32 = 31 :=
  (fun t => by
    have ht : t.val < 64 := Nat.lt_of_lt_of_eq t.isLt N_0
    have e0 : (grid0.coords t 0).val = t.val / 32 % 2 := Pipeline.Grid.coords_val t 0 (by decide) rfl
    have e1 : (grid0.coords t 1).val = t.val / 1 % 32 := Pipeline.Grid.coords_val t 1 (by decide) rfl
    simp only [cond0_1, k0_cond2, e0, e1]
    word_cmp
   : ∀ t : Fin grid0.N, cond0_1 (grid0.coords t) ↔ t.val % 32 = 31)

/-! ## Where the windows are idle (the printed configuration's table `Cfg.idle`) -/

/-- Window 0 is never idle (an input). -/
theorem liveAt0_0 : ∀ t : Fin cfg0.N, cfg0.idle 0 (grid0.coords t) = false := fun _ => rfl
/-- At the points of case A the printed configuration (`Cfg.idle`) calls output 1 idle: the case stores nothing into it. -/
theorem idleAt0_1_A : ∀ t : Fin cfg0.N, cond0_0 (grid0.coords t) → ¬cond0_1 (grid0.coords t) → cfg0.idle 1 (grid0.coords t) = true := by decide +kernel
/-- At the points of case A the pipeline does not write output 1's block back. -/
theorem noFlush0_1_A : ∀ t : Fin cfg0.N, cond0_0 (grid0.coords t) → ¬cond0_1 (grid0.coords t) → (cfg0.win 1).flush t = false := by decide +kernel
/-- At the points of case B the printed configuration (`Cfg.idle`) calls output 1 idle: the case stores nothing into it. -/
theorem idleAt0_1_B : ∀ t : Fin cfg0.N, ¬cond0_0 (grid0.coords t) → ¬cond0_1 (grid0.coords t) → cfg0.idle 1 (grid0.coords t) = true := by decide +kernel
/-- At the points of case B the pipeline does not write output 1's block back. -/
theorem noFlush0_1_B : ∀ t : Fin cfg0.N, ¬cond0_0 (grid0.coords t) → ¬cond0_1 (grid0.coords t) → (cfg0.win 1).flush t = false := by decide +kernel
/-- At the points of case C the printed configuration (`Cfg.idle`) calls output 1 live: the case stores into it. -/
theorem liveAt0_1_C : ∀ t : Fin cfg0.N, ¬cond0_0 (grid0.coords t) → cond0_1 (grid0.coords t) → cfg0.idle 1 (grid0.coords t) = false := by decide +kernel

/-! ## The kernel body on any staging memrefs: a subtype the run finds -/

/-- One staging buffer of output window 1, through which its contents are stated (`View.read_writes_of_cover`: the
    choice does not matter). -/
abbrev VO0_1 : View sig .tc .vmem S2x512 .f32 := (Memref.whole cc0_stg1_0 : Memref sig .tc .vmem S2x512 .f32).view
/-- Each window's current staging memref at point `t`, spelled as the pipeline passes it (`bodyAt0`), and its wholeness. -/
abbrev ms0_0 (t : Fin cfg0.N) : Memref sig .tc .vmem S1024x512 .f32 := win0_0.stage (cfg0.slots t 0)
/-- Window 0's current staging buffer is a whole buffer. -/
abbrev hs0_0 (t : Fin cfg0.N) : (ms0_0 t).IsWhole := hstage0_0 ((cfg0.slots t 0).cast nbuf0_0)
/-- Window 1's current staging buffer, as a view. -/
abbrev ms0_1 (t : Fin cfg0.N) : Memref sig .tc .vmem S2x512 .f32 := win0_1.stage (cfg0.slots t 1)
/-- Window 1's current staging buffer is a whole buffer. -/
abbrev hs0_1 (t : Fin cfg0.N) : (ms0_1 t).IsWhole := hstage0_1 ((cfg0.slots t 1).cast nbuf0_1)
/-- The scratch operands: whole scoped buffers of the kernel's own, passed beside the windows. -/
abbrev scM0_0 : Memref sig .tc .vmem S2x512 .f32 := Memref.whole cc0_scratch0
/-- The scratch `arg4` the kernel carries between points, as a view: what it holds is stated through it. -/
abbrev VS0_0 : View sig .tc .vmem S2x512 .f32 := scM0_0.view

/-- Two assertions that entail each other are equal. -/
theorem eq_of_entails {P Q : sProp 𝕄} (h₁ : P ⊢ Q) (h₂ : Q ⊢ P) : P = Q := equiv_iff.mp ⟨h₁, h₂⟩

/-- The scoped buffers of the other call, each whole at some contents, and the generator register at some state: untouched here. -/
def oth (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ r, prngReg c r))

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ oth c) := by
  unfold Pipeline.ΦA oth; rw [scopedRest0_eq]; simp only [scM0_0, owns_whole]
  refine eq_of_entails ?_ ?_
  · iintro ⟨⟨S0, H0, H1, H2, H3, H4, H5, H6, H7, H8, H9, H10, H11, H12, H13⟩, Hg⟩
    isplitl [S0]; · iexact S0
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact Hg
  · iintro ⟨S0, H0, H1, H2, H3, H4, H5, H6, H7, H8, H9, H10, H11, H12, H13, Hg⟩
    isplitr [Hg]
    · isplitl [S0]; · iexact S0
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
    iexact Hg

end Cert.KernelIdeal.R0

end
-- ==== Proof.R0RunA.lean ====
/- The statistics call (region 0): the body run whole in case A of its conditionals, the stored pieces found by the run. -/
module

public import proofs.«01_k».proof.Proof.R0Runs

@[expose] public section

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 32), WITH the
    proof that on whole staging memrefs — the inputs' at their contents, the outputs it leaves idle (1: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S1024x512 .f32) (harg2 : arg2.IsWhole) (arg3 : Memref sig .tc .vmem S2x512 .f32) (harg3 : arg3.IsWhole) (arg4 : Memref sig .tc .vmem S2x512 .f32) (harg4 : arg4.IsWhole) (hc0 : cond0_0 i) (hc1 : ¬cond0_1 i)
    (x0 : Vec F S1024x512 .f32) :
    Σ' (L1 : List (View.Piece (Elt F) S2x512 .f32)), { LS0 : List (View.Piece (Elt F) S2x512 .f32) //
      ∀ (xi1 : Vec F S2x512 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0_gas_stats i arg2 harg2 arg3 harg3 arg4 harg4) K } := by
  refine ⟨[], ?_, fun xi1 E K => ?run⟩
  case run =>
    simp only [cc0_gas_stats_eq_skeleton]; unfold cc0_gas_stats_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.KernelIdeal.R0

end
-- ==== Proof.R0RunB.lean ====
/- The statistics call (region 0): the body run whole in case B of its conditionals, the stored pieces found by the run. -/
module

public import proofs.«01_k».proof.Proof.R0RunA

@[expose] public section

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 62: 60 of 64), WITH the
    proof that on whole staging memrefs — the inputs' at their contents, the outputs it leaves idle (1: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S1024x512 .f32) (harg2 : arg2.IsWhole) (arg3 : Memref sig .tc .vmem S2x512 .f32) (harg3 : arg3.IsWhole) (arg4 : Memref sig .tc .vmem S2x512 .f32) (harg4 : arg4.IsWhole) (hc0 : ¬cond0_0 i) (hc1 : ¬cond0_1 i)
    (x0 : Vec F S1024x512 .f32) (xs0 : Vec F S2x512 .f32) :
    Σ' (L1 : List (View.Piece (Elt F) S2x512 .f32)), { LS0 : List (View.Piece (Elt F) S2x512 .f32) //
      ∀ (xi1 : Vec F S2x512 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0_gas_stats i arg2 harg2 arg3 harg3 arg4 harg4) K } := by
  refine ⟨[], ?_, fun xi1 E K => ?run⟩
  case run =>
    simp only [cc0_gas_stats_eq_skeleton]; unfold cc0_gas_stats_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.KernelIdeal.R0

end
-- ==== Proof.R0RunC.lean ====
/- The statistics call (region 0): the body run whole in case C of its conditionals, the stored pieces found by the run. -/
module

public import proofs.«01_k».proof.Proof.R0RunB

@[expose] public section

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- (the run's proof term is large: the definition's epilogue — `abstractNestedProofs` — walks it past the default budget)
set_option maxHeartbeats 1000000 in
/-- What the body's stores leave in each output's staging memref, as pieces (last first) IN CASE C (`scf.if` 0 not taken, `scf.if` 1 taken: points 31, 63), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg2 : Memref sig .tc .vmem S1024x512 .f32) (harg2 : arg2.IsWhole) (arg3 : Memref sig .tc .vmem S2x512 .f32) (harg3 : arg3.IsWhole) (arg4 : Memref sig .tc .vmem S2x512 .f32) (harg4 : arg4.IsWhole) (hc0 : ¬cond0_0 i) (hc1 : cond0_1 i)
    (x0 : Vec F S1024x512 .f32) (xs0 : Vec F S2x512 .f32) :
    Σ' (L1 : List (View.Piece (Elt F) S2x512 .f32)), { LS0 : List (View.Piece (Elt F) S2x512 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0_gas_stats i arg2 harg2 arg3 harg3 arg4 harg4) K } := by
  refine ⟨?_, ?_, fun E K => ?run⟩
  case run =>
    simp only [cc0_gas_stats_eq_skeleton]; unfold cc0_gas_stats_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | sl_exact hc0 | sl_exact hc1)
    sl_step
    iapply Hk
    isplitl [H0]
    · iexists _; isplitr; · ipureintro; exact harg2.read_unread _
      iexact H0
    isplitl [H1]; · iexists _; iexact H1
    iexists _; iexact HS0

end Cert.KernelIdeal.R0

end
-- ==== Proof.R0Frame.lean ====
/- The statistics call (region 0): what each grid point leaves, the pipeline proof data at entry contents `V`, and the body obligation. -/
module

public import proofs.«01_k».proof.Proof.R0RunC
public import Idealize.ShloMosaic.Lib.Claim

@[expose] public section

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))
/-- Case A stores nothing into output 1 (the window is idle at its points and not written back there):
    no pieces — a placeholder (junk read back) that nothing consults, since at these points the window is neither
    written back nor read at the next point (Lib/Pipeline.lean "Idle points"). -/
def out0_A_1 (c : Dev nD) (i : grid0.Coords) (arg2 : Memref sig .tc .vmem S1024x512 .f32) (harg2 : arg2.IsWhole) (arg3 : Memref sig .tc .vmem S2x512 .f32) (harg3 : arg3.IsWhole) (arg4 : Memref sig .tc .vmem S2x512 .f32) (harg4 : arg4.IsWhole) (hc0 : cond0_0 i) (hc1 : ¬cond0_1 i)
    (x0 : Vec F S1024x512 .f32) : Vec F S2x512 .f32 :=
  VO0_1.read (Elt F) (VO0_1.writes (Elt F) VO0_1.junk (kernelRun0_A c i arg2 harg2 arg3 harg3 arg4 harg4 hc0 hc1 x0).1)

/-- Case A's pieces for scratch `arg4`, which the kernel carries between points, cover it: one of them a store of the WHOLE buffer (Lib/Ring.lean `sl_whole_mem`). -/
theorem scover0_A_0 (c : Dev nD) (i : grid0.Coords) (arg2 : Memref sig .tc .vmem S1024x512 .f32) (harg2 : arg2.IsWhole) (arg3 : Memref sig .tc .vmem S2x512 .f32) (harg3 : arg3.IsWhole) (arg4 : Memref sig .tc .vmem S2x512 .f32) (harg4 : arg4.IsWhole) (hc0 : cond0_0 i) (hc1 : ¬cond0_1 i)
    (x0 : Vec F S1024x512 .f32) (y : S2x512.Idx) :
    ∃ pc ∈ (kernelRun0_A c i arg2 harg2 arg3 harg3 arg4 harg4 hc0 hc1 x0).2.1, y ∈ pc.1.set :=
  View.cover_of_wholeMem (kernelRun0_A c i arg2 harg2 arg3 harg3 arg4 harg4 hc0 hc1 x0).2.1 (by sl_whole_mem) y

/-- What case A leaves in scratch `arg4`: its pieces read back over junk. -/
def sout0_A_0 (c : Dev nD) (i : grid0.Coords) (arg2 : Memref sig .tc .vmem S1024x512 .f32) (harg2 : arg2.IsWhole) (arg3 : Memref sig .tc .vmem S2x512 .f32) (harg3 : arg3.IsWhole) (arg4 : Memref sig .tc .vmem S2x512 .f32) (harg4 : arg4.IsWhole) (hc0 : cond0_0 i) (hc1 : ¬cond0_1 i)
    (x0 : Vec F S1024x512 .f32) : Vec F S2x512 .f32 :=
  VS0_0.read (Elt F) (VS0_0.writes (Elt F) VS0_0.junk (kernelRun0_A c i arg2 harg2 arg3 harg3 arg4 harg4 hc0 hc1 x0).2.1)

/-- Case B stores nothing into output 1 (the window is idle at its points and not written back there):
    no pieces — a placeholder (junk read back) that nothing consults, since at these points the window is neither
    written back nor read at the next point (Lib/Pipeline.lean "Idle points"). -/
def out0_B_1 (c : Dev nD) (i : grid0.Coords) (arg2 : Memref sig .tc .vmem S1024x512 .f32) (harg2 : arg2.IsWhole) (arg3 : Memref sig .tc .vmem S2x512 .f32) (harg3 : arg3.IsWhole) (arg4 : Memref sig .tc .vmem S2x512 .f32) (harg4 : arg4.IsWhole) (hc0 : ¬cond0_0 i) (hc1 : ¬cond0_1 i)
    (x0 : Vec F S1024x512 .f32) (xs0 : Vec F S2x512 .f32) : Vec F S2x512 .f32 :=
  VO0_1.read (Elt F) (VO0_1.writes (Elt F) VO0_1.junk (kernelRun0_B c i arg2 harg2 arg3 harg3 arg4 harg4 hc0 hc1 x0 xs0).1)

/-- Case B's pieces for scratch `arg4`, which the kernel carries between points, cover it: 2 pieces of `S1x512` tiling it (Lib/Ring.lean `Piece.tiledL`). -/
theorem scover0_B_0 (c : Dev nD) (i : grid0.Coords) (arg2 : Memref sig .tc .vmem S1024x512 .f32) (harg2 : arg2.IsWhole) (arg3 : Memref sig .tc .vmem S2x512 .f32) (harg3 : arg3.IsWhole) (arg4 : Memref sig .tc .vmem S2x512 .f32) (harg4 : arg4.IsWhole) (hc0 : ¬cond0_0 i) (hc1 : ¬cond0_1 i)
    (x0 : Vec F S1024x512 .f32) (xs0 : Vec F S2x512 .f32) (y : S2x512.Idx) :
    ∃ pc ∈ (kernelRun0_B c i arg2 harg2 arg3 harg3 arg4 harg4 hc0 hc1 x0 xs0).2.1, y ∈ pc.1.set :=
  View.cover_of_tiledL (kernelRun0_B c i arg2 harg2 arg3 harg3 arg4 harg4 hc0 hc1 x0 xs0).2.1 S1x512.size (by sl_kernel_rfl) y

/-- What case B leaves in scratch `arg4`: its pieces read back over junk. -/
def sout0_B_0 (c : Dev nD) (i : grid0.Coords) (arg2 : Memref sig .tc .vmem S1024x512 .f32) (harg2 : arg2.IsWhole) (arg3 : Memref sig .tc .vmem S2x512 .f32) (harg3 : arg3.IsWhole) (arg4 : Memref sig .tc .vmem S2x512 .f32) (harg4 : arg4.IsWhole) (hc0 : ¬cond0_0 i) (hc1 : ¬cond0_1 i)
    (x0 : Vec F S1024x512 .f32) (xs0 : Vec F S2x512 .f32) : Vec F S2x512 .f32 :=
  VS0_0.read (Elt F) (VS0_0.writes (Elt F) VS0_0.junk (kernelRun0_B c i arg2 harg2 arg3 harg3 arg4 harg4 hc0 hc1 x0 xs0).2.1)

/-- Case C's pieces for output 1 tile its block (2 stores of `S1x512`, checked by the kernel's evaluation: Lib/Ring.lean `Piece.tiledL`, linear in the pieces, through a loop's `@[irreducible]` trip theorem too), so they cover it. -/
theorem cover0_C_1 (c : Dev nD) (i : grid0.Coords) (arg2 : Memref sig .tc .vmem S1024x512 .f32) (harg2 : arg2.IsWhole) (arg3 : Memref sig .tc .vmem S2x512 .f32) (harg3 : arg3.IsWhole) (arg4 : Memref sig .tc .vmem S2x512 .f32) (harg4 : arg4.IsWhole) (hc0 : ¬cond0_0 i) (hc1 : cond0_1 i)
    (x0 : Vec F S1024x512 .f32) (xs0 : Vec F S2x512 .f32) (y : S2x512.Idx) :
    ∃ pc ∈ (kernelRun0_C c i arg2 harg2 arg3 harg3 arg4 harg4 hc0 hc1 x0 xs0).1, y ∈ pc.1.set :=
  View.cover_of_tiledL (kernelRun0_C c i arg2 harg2 arg3 harg3 arg4 harg4 hc0 hc1 x0 xs0).1 S1x512.size (by sl_kernel_rfl) y

/-- What case C leaves in output 1's staging buffer: its pieces read back over junk. -/
def out0_C_1 (c : Dev nD) (i : grid0.Coords) (arg2 : Memref sig .tc .vmem S1024x512 .f32) (harg2 : arg2.IsWhole) (arg3 : Memref sig .tc .vmem S2x512 .f32) (harg3 : arg3.IsWhole) (arg4 : Memref sig .tc .vmem S2x512 .f32) (harg4 : arg4.IsWhole) (hc0 : ¬cond0_0 i) (hc1 : cond0_1 i)
    (x0 : Vec F S1024x512 .f32) (xs0 : Vec F S2x512 .f32) : Vec F S2x512 .f32 :=
  VO0_1.read (Elt F) (VO0_1.writes (Elt F) VO0_1.junk (kernelRun0_C c i arg2 harg2 arg3 harg3 arg4 harg4 hc0 hc1 x0 xs0).1)

/-- Case C's pieces for scratch `arg4`, which the kernel carries between points, cover it: 2 pieces of `S1x512` tiling it (Lib/Ring.lean `Piece.tiledL`). -/
theorem scover0_C_0 (c : Dev nD) (i : grid0.Coords) (arg2 : Memref sig .tc .vmem S1024x512 .f32) (harg2 : arg2.IsWhole) (arg3 : Memref sig .tc .vmem S2x512 .f32) (harg3 : arg3.IsWhole) (arg4 : Memref sig .tc .vmem S2x512 .f32) (harg4 : arg4.IsWhole) (hc0 : ¬cond0_0 i) (hc1 : cond0_1 i)
    (x0 : Vec F S1024x512 .f32) (xs0 : Vec F S2x512 .f32) (y : S2x512.Idx) :
    ∃ pc ∈ (kernelRun0_C c i arg2 harg2 arg3 harg3 arg4 harg4 hc0 hc1 x0 xs0).2.1, y ∈ pc.1.set :=
  View.cover_of_tiledL (kernelRun0_C c i arg2 harg2 arg3 harg3 arg4 harg4 hc0 hc1 x0 xs0).2.1 S1x512.size (by sl_kernel_rfl) y

/-- What case C leaves in scratch `arg4`: its pieces read back over junk. -/
def sout0_C_0 (c : Dev nD) (i : grid0.Coords) (arg2 : Memref sig .tc .vmem S1024x512 .f32) (harg2 : arg2.IsWhole) (arg3 : Memref sig .tc .vmem S2x512 .f32) (harg3 : arg3.IsWhole) (arg4 : Memref sig .tc .vmem S2x512 .f32) (harg4 : arg4.IsWhole) (hc0 : ¬cond0_0 i) (hc1 : cond0_1 i)
    (x0 : Vec F S1024x512 .f32) (xs0 : Vec F S2x512 .f32) : Vec F S2x512 .f32 :=
  VS0_0.read (Elt F) (VS0_0.writes (Elt F) VS0_0.junk (kernelRun0_C c i arg2 harg2 arg3 harg3 arg4 harg4 hc0 hc1 x0 xs0).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S2x512 .f32 × Vec F S2x512 .f32
  | 0, hn => (out0_A_1 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk V c 0 ⟨0, hn⟩), sout0_A_0 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk V c 0 ⟨0, hn⟩))
  | n + 1, hn =>
    if h0 : (n + 1) % 32 = 0 then
      if h1 : (n + 1) % 32 = 31 then
        False.elim (by have hN : n + 1 < 64 := lt_of_lt_of_eq hn (show cfg0.N = 64 from N_0); omega)
      else
        (out0_A_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk V c 0 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk V c 0 ⟨n + 1, hn⟩))
    else
      if h1 : (n + 1) % 32 = 31 then
        (out0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk V c 0 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk V c 0 ⟨n + 1, hn⟩) (outsAt0 c n (Nat.lt_of_succ_lt hn)).2)
      else
        (out0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk V c 0 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk V c 0 ⟨n + 1, hn⟩) (outsAt0 c n (Nat.lt_of_succ_lt hn)).2)

/-- `outsAt0` at a point of case A: that case's contents. -/
theorem outsAt0_A (c : Dev nD) (t : Fin cfg0.N) (h0 : t.val % 32 = 0) (h1 : ¬t.val % 32 = 31) :
    outsAt0 V c t.val t.isLt = (out0_A_1 c (grid0.coords t) (ms0_0 t) (hs0_0 t) (ms0_1 t) (hs0_1 t) scM0_0 (Memref.isWhole_whole _) ((hcond0_0 t).mpr h0) (fun h => h1 ((hcond0_1 t).mp h)) (iblk V c 0 t), sout0_A_0 c (grid0.coords t) (ms0_0 t) (hs0_0 t) (ms0_1 t) (hs0_1 t) scM0_0 (Memref.isWhole_whole _) ((hcond0_0 t).mpr h0) (fun h => h1 ((hcond0_1 t).mp h)) (iblk V c 0 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 32 = 0) (h1 : ¬t.val % 32 = 31) :
    outsAt0 V c t.val t.isLt = (out0_B_1 c (grid0.coords t) (ms0_0 t) (hs0_0 t) (ms0_1 t) (hs0_1 t) scM0_0 (Memref.isWhole_whole _) (fun h => h0 ((hcond0_0 t).mp h)) (fun h => h1 ((hcond0_1 t).mp h)) (iblk V c 0 t) (outsAt0 V c (t.val - 1) (Nat.lt_of_le_of_lt (Nat.sub_le _ _) t.isLt)).2, sout0_B_0 c (grid0.coords t) (ms0_0 t) (hs0_0 t) (ms0_1 t) (hs0_1 t) scM0_0 (Memref.isWhole_whole _) (fun h => h0 ((hcond0_0 t).mp h)) (fun h => h1 ((hcond0_1 t).mp h)) (iblk V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 32 = 0) (h1 : t.val % 32 = 31) :
    outsAt0 V c t.val t.isLt = (out0_C_1 c (grid0.coords t) (ms0_0 t) (hs0_0 t) (ms0_1 t) (hs0_1 t) scM0_0 (Memref.isWhole_whole _) (fun h => h0 ((hcond0_0 t).mp h)) ((hcond0_1 t).mpr h1) (iblk V c 0 t) (outsAt0 V c (t.val - 1) (Nat.lt_of_le_of_lt (Nat.sub_le _ _) t.isLt)).2, sout0_C_0 c (grid0.coords t) (ms0_0 t) (hs0_0 t) (ms0_1 t) (hs0_1 t) scM0_0 (Memref.isWhole_whole _) (fun h => h0 ((hcond0_0 t).mp h)) ((hcond0_1 t).mpr h1) (iblk V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2)) ∗ oth c)

/-- Before the first grid point the invariant is the buffers' as the call is entered. -/
theorem PhiS_zero (c : Dev nD) (n : ℕ) (h : n ≤ cfg0.N) (hz : n = 0) : PhiS V c n h = Pipeline.ΦA spec0 c := by
  subst hz; rfl

/-- After point `n` (before point `n + 1`): the carried scratch at that point's contents. -/
theorem PhiS_succ (c : Dev nD) (n : ℕ) (hn : n < cfg0.N) :
    PhiS V c (n + 1) hn = iprop(iprop(owns (c : Thread nD τ) scM0_0 fullShare ((outsAt0 V c n hn).2)) ∗ oth c) := rfl

/-- Before a point that is not the first: the carried scratch at what the point before left. -/
theorem PhiS_pos (c : Dev nD) (n : ℕ) (h : n ≤ cfg0.N) (hz : n ≠ 0) :
    PhiS V c n h = iprop(iprop(owns (c : Thread nD τ) scM0_0 fullShare ((outsAt0 V c (n - 1) (by omega)).2)) ∗ oth c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => (outsAt0 V c t.val t.isLt).1
  Φ t := PhiS V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dat V c).A w = V c (Pipeline.arrRef spec0 w) := by
  dsimp only [dat]

/-- The invariant at a point's start (the proof data at `t.castSucc`), restated at `t.val`. -/
theorem PhiS_castSucc (c : Dev nD) (t : Fin cfg0.N) :
    (dat V c).Φ t.castSucc = PhiS V c t.val (Nat.le_of_lt t.isLt) := by
  dsimp only [dat]; exact Pipeline.Dat.Φ_castSucc (PhiS V c) t

/-- What the body leaves, window by window (the proof data's `match` reduced by `dsimp`). -/
theorem after0_0 (c : Dev nD) (t : Fin cfg0.N) : (dat V c).after 0 t = iblk V c 0 t := by dsimp only [dat]
/-- After a point the staging buffer of window 1 holds what the body wrote there. -/
theorem after0_1 (c : Dev nD) (t : Fin cfg0.N) : (dat V c).after 1 t = (outsAt0 V c t.val t.isLt).1 := by dsimp only [dat]

/-- Each input's current staging buffer holds its block at every point, fetched there or not (`beforeK_W_of`). -/
theorem before0_0 (c : Dev nD) (t : Fin cfg0.N) (d) : (dat V c).before 0 t d = iblk V c 0 t :=
  before0_0_of V (dat V c) (A_eq V c 0) (after0_0 V c) t d

/-! ## The body obligation, at a generic point -/

/-- What the body is called with at point `t` (Lib/Pipeline.lean `BodyObligation`'s precondition, the windows one by one), -/
def bodyPre (c : Dev nD) (t : Fin cfg0.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t)

set_option maxHeartbeats 4800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0]
  rw [show (dat V c).owesAt () t.succ = (dat V c).owesAt () t.castSucc from rfl]
  rw [show (dat V c).Φ t.succ = PhiS V c (t.val + 1) t.isLt from rfl, PhiS_succ]
  have hN : t.val < 64 := lt_of_lt_of_eq t.isLt (show cfg0.N = 64 from N_0)
  by_cases h0 : t.val % 32 = 0
  · by_cases h1 : t.val % 32 = 31
    · exfalso; omega
    · rw [show (dat V c).leavesExact 0 t = owns (c : Thread nD τ) (ms0_0 t) fullShare ((dat V c).after 0 t) from by
      unfold Dat.leavesExact; rw [liveAt0_0 t], after0_0]
      rw [Dat.leavesExact_idle (dat V c) 1 t (idleAt0_1_A t ((hcond0_0 t).mpr h0) (fun h => h1 ((hcond0_1 t).mp h))) (noFlush0_1_A t ((hcond0_0 t).mpr h0) (fun h => h1 ((hcond0_1 t).mp h)))]
      by_cases hz : t.val = 0
      · rw [PhiS_castSucc V c t, PhiS_zero V c _ _ hz, PhiA0_eq]
        rw [outsAt0_A V c t h0 h1]
        unfold sout0_A_0; (try dsimp only)
        iintro ⟨⟨HS0, Hg⟩, Ho, ⟨%d0, H0⟩, ⟨%d1, H1⟩⟩
        iapply ((kernelRun0_A c (grid0.coords t) _ _ _ _ _ _ ((hcond0_0 t).mpr h0) (fun h => h1 ((hcond0_1 t).mp h)) (iblk V c 0 t)).2.2 _ Set.univ _)
        isplitl [H0]; · iexact H0
        isplitl [H1]; · iexact H1
        isplitl [HS0]; · iexact HS0
        iintro ⟨H0, H1, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _)
          iexact Hg
        isplitl [Ho]; · iexact Ho
        isplitl [H0]; · iexact H0
        iexists _; iexact H1
      · rw [PhiS_castSucc V c t, PhiS_pos V c _ _ hz]
        rw [outsAt0_A V c t h0 h1]
        unfold sout0_A_0; (try dsimp only)
        iintro ⟨⟨HS0, Hg⟩, Ho, ⟨%d0, H0⟩, ⟨%d1, H1⟩⟩
        iapply ((kernelRun0_A c (grid0.coords t) _ _ _ _ _ _ ((hcond0_0 t).mpr h0) (fun h => h1 ((hcond0_1 t).mp h)) (iblk V c 0 t)).2.2 _ Set.univ _)
        isplitl [H0]; · iexact H0
        isplitl [H1]; · iexact H1
        isplitl [HS0]; · iexists _; iexact HS0
        iintro ⟨H0, H1, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _)
          iexact Hg
        isplitl [Ho]; · iexact Ho
        isplitl [H0]; · iexact H0
        iexists _; iexact H1
  · by_cases h1 : t.val % 32 = 31
    · rw [show (dat V c).leavesExact 0 t = owns (c : Thread nD τ) (ms0_0 t) fullShare ((dat V c).after 0 t) from by
      unfold Dat.leavesExact; rw [liveAt0_0 t], after0_0]
      rw [show (dat V c).leavesExact 1 t = owns (c : Thread nD τ) (ms0_1 t) fullShare ((dat V c).after 1 t) from by
      unfold Dat.leavesExact; rw [liveAt0_1_C t (fun h => h0 ((hcond0_0 t).mp h)) ((hcond0_1 t).mpr h1)], after0_1]
      by_cases hz : t.val = 0
      · exfalso; have hN : t.val < 64 := lt_of_lt_of_eq t.isLt (show cfg0.N = 64 from N_0); omega
      · rw [PhiS_castSucc V c t, PhiS_pos V c _ _ hz]
        rw [outsAt0_C V c t h0 h1]
        unfold out0_C_1 sout0_C_0; (try dsimp only)
        iintro ⟨⟨HS0, Hg⟩, Ho, ⟨%d0, H0⟩, ⟨%d1, H1⟩⟩
        iapply ((kernelRun0_C c (grid0.coords t) _ _ _ _ _ _ (fun h => h0 ((hcond0_0 t).mp h)) ((hcond0_1 t).mpr h1) (iblk V c 0 t) _).2.2 Set.univ _)
        isplitl [H0]; · iexact H0
        isplitl [H1]; · iexists _; iexact H1
        isplitl [HS0]; · iexact HS0
        iintro ⟨H0, ⟨%e1, H1⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _)
          iexact Hg
        isplitl [Ho]; · iexact Ho
        isplitl [H0]; · iexact H0
        unfold owns; iexists _; isplitr
        swap; · iexact H1
        ipureintro; exact View.read_writes_of_cover _ _ _ _ _ (cover0_C_1 c _ _ _ _ _ _ _ _ _ _ _)
    · rw [show (dat V c).leavesExact 0 t = owns (c : Thread nD τ) (ms0_0 t) fullShare ((dat V c).after 0 t) from by
      unfold Dat.leavesExact; rw [liveAt0_0 t], after0_0]
      rw [Dat.leavesExact_idle (dat V c) 1 t (idleAt0_1_B t (fun h => h0 ((hcond0_0 t).mp h)) (fun h => h1 ((hcond0_1 t).mp h))) (noFlush0_1_B t (fun h => h0 ((hcond0_0 t).mp h)) (fun h => h1 ((hcond0_1 t).mp h)))]
      by_cases hz : t.val = 0
      · exfalso; have hN : t.val < 64 := lt_of_lt_of_eq t.isLt (show cfg0.N = 64 from N_0); omega
      · rw [PhiS_castSucc V c t, PhiS_pos V c _ _ hz]
        rw [outsAt0_B V c t h0 h1]
        unfold sout0_B_0; (try dsimp only)
        iintro ⟨⟨HS0, Hg⟩, Ho, ⟨%d0, H0⟩, ⟨%d1, H1⟩⟩
        iapply ((kernelRun0_B c (grid0.coords t) _ _ _ _ _ _ (fun h => h0 ((hcond0_0 t).mp h)) (fun h => h1 ((hcond0_1 t).mp h)) (iblk V c 0 t) _).2.2 _ Set.univ _)
        isplitl [H0]; · iexact H0
        isplitl [H1]; · iexact H1
        isplitl [HS0]; · iexact HS0
        iintro ⟨H0, H1, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _)
          iexact Hg
        isplitl [Ho]; · iexact Ho
        isplitl [H0]; · iexact H0
        iexists _; iexact H1

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dat V c) (defs₀ (F := F)) Variants.none () Set.univ := fun t => by
  rw [bigSep_W0, bigSep_W0, defs₀_row]
  exact triple_restated (sound_body V c t) rfl .rfl fun _ => .rfl

/-- What the launch hands the region (`ΦA`) is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA0_eq]
  iintro ⟨HS0, Hg⟩
  isplitl [HS0]
  · iexists _; iexact HS0
  iexact Hg

/-- The same after the last point. -/
theorem hout (c : Dev nD) : (dat V c).Φ (Fin.last cfg0.N) ⊢ Pipeline.ΦA spec0 c :=
  Phi_out V c _ (by rw [Fin.val_last]; have : cfg0.N = 64 := N_0; omega)

end Cert.KernelIdeal.R0

end
-- ==== Proof.R1Runs.lean ====
/- The scan call (region 1): window blocks at entry contents `V`, the branch conditions of its body in closed form, its staging and scratch memrefs. -/
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k1_h1`), from the grid coordinates (the skeleton's scalar
    chain substituted). -/
abbrev cond1_0 (i : grid1.Coords) : Prop := (Scalar.cmpi .ne (Scalar.extui (Scalar.cmpi .eq (BitVec.ofNat 32 (i 1).val) 0#32)) 0#32) = 1#1
/-- It holds at the points ≡ 0 (mod 64) — by arithmetic of the point. -/
theorem hcond1_0 : ∀ t : Fin cfg1.N, cond1_0 (grid1.coords t) ↔ t.val % 64 = 0 :=
  (fun t => by
    have ht : t.val < 128 := Nat.lt_of_lt_of_eq t.isLt N_1
    have e0 : (grid1.coords t 0).val = t.val / 64 % 2 := Pipeline.Grid.coords_val t 0 (by decide) rfl
    have e1 : (grid1.coords t 1).val = t.val / 1 % 64 := Pipeline.Grid.coords_val t 1 (by decide) rfl
    simp only [cond1_0, e0, e1]
    word_cmp
   : ∀ t : Fin grid1.N, cond1_0 (grid1.coords t) ↔ t.val % 64 = 0)

/-! ## The kernel body on any staging memrefs: a subtype the run finds -/

/-- One staging buffer of output window 6, through which its contents are stated (`View.read_writes_of_cover`: the
    choice does not matter). -/
abbrev VO1_6 : View sig .tc .vmem S512x512 .f32 := (Memref.whole cc1_stg6_0 : Memref sig .tc .vmem S512x512 .f32).view
/-- One staging buffer of output window 7, through which its contents are stated (`View.read_writes_of_cover`: the
    choice does not matter). -/
abbrev VO1_7 : View sig .tc .vmem S512x2x512 .f32 := (Memref.whole cc1_stg7_0 : Memref sig .tc .vmem S512x2x512 .f32).view
/-- Each window's current staging memref at point `t`, spelled as the pipeline passes it (`bodyAt1`), and its wholeness. -/
abbrev ms1_0 (t : Fin cfg1.N) : Memref sig .tc .vmem S512x512 .f32 := win1_0.stage (cfg1.slots t 0)
/-- Window 0's current staging buffer is a whole buffer. -/
abbrev hs1_0 (t : Fin cfg1.N) : (ms1_0 t).IsWhole := hstage1_0 ((cfg1.slots t 0).cast nbuf1_0)
/-- Window 1's current staging buffer, as a view. -/
abbrev ms1_1 (t : Fin cfg1.N) : Memref sig .tc .vmem S2x512 .f32 := win1_1.stage (cfg1.slots t 1)
/-- Window 1's current staging buffer is a whole buffer. -/
abbrev hs1_1 (t : Fin cfg1.N) : (ms1_1 t).IsWhole := hstage1_1 ((cfg1.slots t 1).cast nbuf1_1)
/-- Window 2's current staging buffer, as a view. -/
abbrev ms1_2 (t : Fin cfg1.N) : Memref sig .tc .vmem S256x256 .f32 := win1_2.stage (cfg1.slots t 2)
/-- Window 2's current staging buffer is a whole buffer. -/
abbrev hs1_2 (t : Fin cfg1.N) : (ms1_2 t).IsWhole := hstage1_2 ((cfg1.slots t 2).cast nbuf1_2)
/-- Window 3's current staging buffer, as a view. -/
abbrev ms1_3 (t : Fin cfg1.N) : Memref sig .tc .vmem S256x256 .f32 := win1_3.stage (cfg1.slots t 3)
/-- Window 3's current staging buffer is a whole buffer. -/
abbrev hs1_3 (t : Fin cfg1.N) : (ms1_3 t).IsWhole := hstage1_3 ((cfg1.slots t 3).cast nbuf1_3)
/-- Window 4's current staging buffer, as a view. -/
abbrev ms1_4 (t : Fin cfg1.N) : Memref sig .tc .vmem S256x1 .f32 := win1_4.stage (cfg1.slots t 4)
/-- Window 4's current staging buffer is a whole buffer. -/
abbrev hs1_4 (t : Fin cfg1.N) : (ms1_4 t).IsWhole := hstage1_4 ((cfg1.slots t 4).cast nbuf1_4)
/-- Window 5's current staging buffer, as a view. -/
abbrev ms1_5 (t : Fin cfg1.N) : Memref sig .tc .vmem S256x1 .f32 := win1_5.stage (cfg1.slots t 5)
/-- Window 5's current staging buffer is a whole buffer. -/
abbrev hs1_5 (t : Fin cfg1.N) : (ms1_5 t).IsWhole := hstage1_5 ((cfg1.slots t 5).cast nbuf1_5)
/-- Window 6's current staging buffer, as a view. -/
abbrev ms1_6 (t : Fin cfg1.N) : Memref sig .tc .vmem S512x512 .f32 := win1_6.stage (cfg1.slots t 6)
/-- Window 6's current staging buffer is a whole buffer. -/
abbrev hs1_6 (t : Fin cfg1.N) : (ms1_6 t).IsWhole := hstage1_6 ((cfg1.slots t 6).cast nbuf1_6)
/-- Window 7's current staging buffer, as a view. -/
abbrev ms1_7 (t : Fin cfg1.N) : Memref sig .tc .vmem S512x2x512 .f32 := win1_7.stage (cfg1.slots t 7)
/-- Window 7's current staging buffer is a whole buffer. -/
abbrev hs1_7 (t : Fin cfg1.N) : (ms1_7 t).IsWhole := hstage1_7 ((cfg1.slots t 7).cast nbuf1_7)
/-- The scratch operands: whole scoped buffers of the kernel's own, passed beside the windows. -/
abbrev scM1_0 : Memref sig .tc .vmem S1x512 .f32 := Memref.whole cc1_scratch0
/-- The second scratch operand, whole. -/
abbrev scM1_1 : Memref sig .tc .vmem S1x512 .f32 := Memref.whole cc1_scratch1
/-- The scratch `arg10` the kernel carries between points, as a view: what it holds is stated through it. -/
abbrev VS1_0 : View sig .tc .vmem S1x512 .f32 := scM1_0.view
/-- The scratch `arg11` the kernel carries between points, as a view: what it holds is stated through it. -/
abbrev VS1_1 : View sig .tc .vmem S1x512 .f32 := scM1_1.view

/-- Two assertions that entail each other are equal. -/
theorem eq_of_entails {P Q : sProp 𝕄} (h₁ : P ⊢ Q) (h₂ : Q ⊢ P) : P = Q := equiv_iff.mp ⟨h₁, h₂⟩

/-- The scoped buffers of the other call, each whole at some contents, and the generator register at some state: untouched here. -/
def oth (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f) ∗ (∃ r, prngReg c r))

/-- The frame kit's invariant with the scratch operands as memrefs owned at some contents (`Gen.scopedRest1_eq`,
    Lib/Memref.lean `owns_whole`): what the body obligation hands the run and takes back. -/
theorem PhiA1_eq (c : Dev nD) :
    (Pipeline.ΦA spec1 c : sProp 𝕄)
      = iprop(iprop((∃ d, owns (c : Thread nD τ) scM1_0 fullShare d) ∗ (∃ d, owns (c : Thread nD τ) scM1_1 fullShare d)) ∗ oth c) := by
  unfold Pipeline.ΦA oth; rw [scopedRest1_eq]; simp only [scM1_0, scM1_1, owns_whole]
  refine eq_of_entails ?_ ?_
  · iintro ⟨⟨H0, H1, H2, H3, H4, S0, S1⟩, Hg⟩
    isplitl [S0 S1]
    · isplitl [S0]; · iexact S0
      iexact S1
    isplitl [H0]; · iexact H0
    isplitl [H1]; · iexact H1
    isplitl [H2]; · iexact H2
    isplitl [H3]; · iexact H3
    isplitl [H4]; · iexact H4
    iexact Hg
  · iintro ⟨⟨S0, S1⟩, H0, H1, H2, H3, H4, Hg⟩
    isplitr [Hg]
    · isplitl [H0]; · iexact H0
      isplitl [H1]; · iexact H1
      isplitl [H2]; · iexact H2
      isplitl [H3]; · iexact H3
      isplitl [H4]; · iexact H4
      isplitl [S0]; · iexact S0
      iexact S1
    iexact Hg

end Cert.KernelIdeal.R1

end
-- ==== Proof.R1RunA.lean ====
/- The scan call (region 1): the body run whole in case A of its conditionals, the stored pieces found by the run. -/
module

public import proofs.«01_k».proof.Proof.R1Runs

@[expose] public section

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- (the run's proof term is large: the definition's epilogue — `abstractNestedProofs` — walks it past the default budget)
set_option maxHeartbeats 1000000 in
/-- What the body's stores leave in each output's staging memref, as pieces (last first) IN CASE A (`scf.if` 0 taken: points 0, 64), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_A (c : Dev nD) (i : grid1.Coords) (arg2 : Memref sig .tc .vmem S512x512 .f32) (harg2 : arg2.IsWhole) (arg3 : Memref sig .tc .vmem S2x512 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S512x512 .f32) (harg8 : arg8.IsWhole) (arg9 : Memref sig .tc .vmem S512x2x512 .f32) (harg9 : arg9.IsWhole) (arg10 : Memref sig .tc .vmem S1x512 .f32) (harg10 : arg10.IsWhole) (arg11 : Memref sig .tc .vmem S1x512 .f32) (harg11 : arg11.IsWhole) (hc0 : cond1_0 i)
    (x0 : Vec F S512x512 .f32) (x1 : Vec F S2x512 .f32) (x2 : Vec F S256x256 .f32) (x3 : Vec F S256x256 .f32) (x4 : Vec F S256x1 .f32) (x5 : Vec F S256x1 .f32) :
    Σ' (L6 : List (View.Piece (Elt F) S512x512 .f32)), Σ' (L7 : List (View.Piece (Elt F) S512x2x512 .f32)), Σ' (LS0 : List (View.Piece (Elt F) S1x512 .f32)), { LS1 : List (View.Piece (Elt F) S1x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1_gas_scan i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc1_gas_scan_eq_skeleton]; unfold cc1_gas_scan_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [HS0]; · iexists _; iexact HS0
    iexists _; iexact HS1

end Cert.KernelIdeal.R1

end
-- ==== Proof.R1RunB.lean ====
/- The scan call (region 1): the body run whole in case B of its conditionals, the stored pieces found by the run. -/
module

public import proofs.«01_k».proof.Proof.R1RunA

@[expose] public section

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- (the run's proof term is large: the definition's epilogue — `abstractNestedProofs` — walks it past the default budget)
set_option maxHeartbeats 1000000 in
/-- What the body's stores leave in each output's staging memref, as pieces (last first) IN CASE B (`scf.if` 0 not taken: points 1, 2, … 127: 126 of 128), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_B (c : Dev nD) (i : grid1.Coords) (arg2 : Memref sig .tc .vmem S512x512 .f32) (harg2 : arg2.IsWhole) (arg3 : Memref sig .tc .vmem S2x512 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S512x512 .f32) (harg8 : arg8.IsWhole) (arg9 : Memref sig .tc .vmem S512x2x512 .f32) (harg9 : arg9.IsWhole) (arg10 : Memref sig .tc .vmem S1x512 .f32) (harg10 : arg10.IsWhole) (arg11 : Memref sig .tc .vmem S1x512 .f32) (harg11 : arg11.IsWhole) (hc0 : ¬cond1_0 i)
    (x0 : Vec F S512x512 .f32) (x1 : Vec F S2x512 .f32) (x2 : Vec F S256x256 .f32) (x3 : Vec F S256x256 .f32) (x4 : Vec F S256x1 .f32) (x5 : Vec F S256x1 .f32) (xs0 : Vec F S1x512 .f32) (xs1 : Vec F S1x512 .f32) :
    Σ' (L6 : List (View.Piece (Elt F) S512x512 .f32)), Σ' (L7 : List (View.Piece (Elt F) S512x2x512 .f32)), Σ' (LS0 : List (View.Piece (Elt F) S1x512 .f32)), { LS1 : List (View.Piece (Elt F) S1x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1_gas_scan i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc1_gas_scan_eq_skeleton]; unfold cc1_gas_scan_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0; obtain rfl := harg11.eq_unread hfs1
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [HS0]; · iexists _; iexact HS0
    iexists _; iexact HS1

end Cert.KernelIdeal.R1

end
-- ==== Proof.R1Frame.lean ====
/- The scan call (region 1): what each grid point leaves, the pipeline proof data at entry contents `V`, and the body obligation. -/
module

public import proofs.«01_k».proof.Proof.R1RunB
public import Idealize.ShloMosaic.Lib.Claim

@[expose] public section

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))
/-- Case A's pieces for output 6 tile its block (2 stores of `S256x512`, checked by the kernel's evaluation: Lib/Ring.lean `Piece.tiledL`, linear in the pieces, through a loop's `@[irreducible]` trip theorem too), so they cover it. -/
theorem cover1_A_6 (c : Dev nD) (i : grid1.Coords) (arg2 : Memref sig .tc .vmem S512x512 .f32) (harg2 : arg2.IsWhole) (arg3 : Memref sig .tc .vmem S2x512 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S512x512 .f32) (harg8 : arg8.IsWhole) (arg9 : Memref sig .tc .vmem S512x2x512 .f32) (harg9 : arg9.IsWhole) (arg10 : Memref sig .tc .vmem S1x512 .f32) (harg10 : arg10.IsWhole) (arg11 : Memref sig .tc .vmem S1x512 .f32) (harg11 : arg11.IsWhole) (hc0 : cond1_0 i)
    (x0 : Vec F S512x512 .f32) (x1 : Vec F S2x512 .f32) (x2 : Vec F S256x256 .f32) (x3 : Vec F S256x256 .f32) (x4 : Vec F S256x1 .f32) (x5 : Vec F S256x1 .f32) (y : S512x512.Idx) :
    ∃ pc ∈ (kernelRun1_A c i arg2 harg2 arg3 harg3 arg4 harg4 arg5 harg5 arg6 harg6 arg7 harg7 arg8 harg8 arg9 harg9 arg10 harg10 arg11 harg11 hc0 x0 x1 x2 x3 x4 x5).1, y ∈ pc.1.set :=
  View.cover_of_tiledL (kernelRun1_A c i arg2 harg2 arg3 harg3 arg4 harg4 arg5 harg5 arg6 harg6 arg7 harg7 arg8 harg8 arg9 harg9 arg10 harg10 arg11 harg11 hc0 x0 x1 x2 x3 x4 x5).1 S256x512.size (by sl_kernel_rfl) y

/-- What case A leaves in output 6's staging buffer: its pieces read back over junk. -/
def out1_A_6 (c : Dev nD) (i : grid1.Coords) (arg2 : Memref sig .tc .vmem S512x512 .f32) (harg2 : arg2.IsWhole) (arg3 : Memref sig .tc .vmem S2x512 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S512x512 .f32) (harg8 : arg8.IsWhole) (arg9 : Memref sig .tc .vmem S512x2x512 .f32) (harg9 : arg9.IsWhole) (arg10 : Memref sig .tc .vmem S1x512 .f32) (harg10 : arg10.IsWhole) (arg11 : Memref sig .tc .vmem S1x512 .f32) (harg11 : arg11.IsWhole) (hc0 : cond1_0 i)
    (x0 : Vec F S512x512 .f32) (x1 : Vec F S2x512 .f32) (x2 : Vec F S256x256 .f32) (x3 : Vec F S256x256 .f32) (x4 : Vec F S256x1 .f32) (x5 : Vec F S256x1 .f32) : Vec F S512x512 .f32 :=
  VO1_6.read (Elt F) (VO1_6.writes (Elt F) VO1_6.junk (kernelRun1_A c i arg2 harg2 arg3 harg3 arg4 harg4 arg5 harg5 arg6 harg6 arg7 harg7 arg8 harg8 arg9 harg9 arg10 harg10 arg11 harg11 hc0 x0 x1 x2 x3 x4 x5).1)

/-- Case A's pieces for output 7 tile its block (4 stores of `S256x1x512`, checked by the kernel's evaluation: Lib/Ring.lean `Piece.tiledL`, linear in the pieces, through a loop's `@[irreducible]` trip theorem too), so they cover it. -/
theorem cover1_A_7 (c : Dev nD) (i : grid1.Coords) (arg2 : Memref sig .tc .vmem S512x512 .f32) (harg2 : arg2.IsWhole) (arg3 : Memref sig .tc .vmem S2x512 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S512x512 .f32) (harg8 : arg8.IsWhole) (arg9 : Memref sig .tc .vmem S512x2x512 .f32) (harg9 : arg9.IsWhole) (arg10 : Memref sig .tc .vmem S1x512 .f32) (harg10 : arg10.IsWhole) (arg11 : Memref sig .tc .vmem S1x512 .f32) (harg11 : arg11.IsWhole) (hc0 : cond1_0 i)
    (x0 : Vec F S512x512 .f32) (x1 : Vec F S2x512 .f32) (x2 : Vec F S256x256 .f32) (x3 : Vec F S256x256 .f32) (x4 : Vec F S256x1 .f32) (x5 : Vec F S256x1 .f32) (y : S512x2x512.Idx) :
    ∃ pc ∈ (kernelRun1_A c i arg2 harg2 arg3 harg3 arg4 harg4 arg5 harg5 arg6 harg6 arg7 harg7 arg8 harg8 arg9 harg9 arg10 harg10 arg11 harg11 hc0 x0 x1 x2 x3 x4 x5).2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 x0 x1 x2 x3 x4 x5).2.1 S256x1x512.size (by sl_kernel_rfl) y

/-- What case A leaves in output 7's staging buffer: its pieces read back over junk. -/
def out1_A_7 (c : Dev nD) (i : grid1.Coords) (arg2 : Memref sig .tc .vmem S512x512 .f32) (harg2 : arg2.IsWhole) (arg3 : Memref sig .tc .vmem S2x512 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S512x512 .f32) (harg8 : arg8.IsWhole) (arg9 : Memref sig .tc .vmem S512x2x512 .f32) (harg9 : arg9.IsWhole) (arg10 : Memref sig .tc .vmem S1x512 .f32) (harg10 : arg10.IsWhole) (arg11 : Memref sig .tc .vmem S1x512 .f32) (harg11 : arg11.IsWhole) (hc0 : cond1_0 i)
    (x0 : Vec F S512x512 .f32) (x1 : Vec F S2x512 .f32) (x2 : Vec F S256x256 .f32) (x3 : Vec F S256x256 .f32) (x4 : Vec F S256x1 .f32) (x5 : Vec F S256x1 .f32) : Vec F S512x2x512 .f32 :=
  VO1_7.read (Elt F) (VO1_7.writes (Elt F) VO1_7.junk (kernelRun1_A c i arg2 harg2 arg3 harg3 arg4 harg4 arg5 harg5 arg6 harg6 arg7 harg7 arg8 harg8 arg9 harg9 arg10 harg10 arg11 harg11 hc0 x0 x1 x2 x3 x4 x5).2.1)

/-- Case A's pieces for scratch `arg10`, which the kernel carries between points, cover it: 2 pieces of `S1x512` tiling it (Lib/Ring.lean `Piece.tiledL`). -/
theorem scover1_A_0 (c : Dev nD) (i : grid1.Coords) (arg2 : Memref sig .tc .vmem S512x512 .f32) (harg2 : arg2.IsWhole) (arg3 : Memref sig .tc .vmem S2x512 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S512x512 .f32) (harg8 : arg8.IsWhole) (arg9 : Memref sig .tc .vmem S512x2x512 .f32) (harg9 : arg9.IsWhole) (arg10 : Memref sig .tc .vmem S1x512 .f32) (harg10 : arg10.IsWhole) (arg11 : Memref sig .tc .vmem S1x512 .f32) (harg11 : arg11.IsWhole) (hc0 : cond1_0 i)
    (x0 : Vec F S512x512 .f32) (x1 : Vec F S2x512 .f32) (x2 : Vec F S256x256 .f32) (x3 : Vec F S256x256 .f32) (x4 : Vec F S256x1 .f32) (x5 : Vec F S256x1 .f32) (y : S1x512.Idx) :
    ∃ pc ∈ (kernelRun1_A c i arg2 harg2 arg3 harg3 arg4 harg4 arg5 harg5 arg6 harg6 arg7 harg7 arg8 harg8 arg9 harg9 arg10 harg10 arg11 harg11 hc0 x0 x1 x2 x3 x4 x5).2.2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 x0 x1 x2 x3 x4 x5).2.2.1 S1x512.size (by sl_kernel_rfl) y

/-- What case A leaves in scratch `arg10`: its pieces read back over junk. -/
def sout1_A_0 (c : Dev nD) (i : grid1.Coords) (arg2 : Memref sig .tc .vmem S512x512 .f32) (harg2 : arg2.IsWhole) (arg3 : Memref sig .tc .vmem S2x512 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S512x512 .f32) (harg8 : arg8.IsWhole) (arg9 : Memref sig .tc .vmem S512x2x512 .f32) (harg9 : arg9.IsWhole) (arg10 : Memref sig .tc .vmem S1x512 .f32) (harg10 : arg10.IsWhole) (arg11 : Memref sig .tc .vmem S1x512 .f32) (harg11 : arg11.IsWhole) (hc0 : cond1_0 i)
    (x0 : Vec F S512x512 .f32) (x1 : Vec F S2x512 .f32) (x2 : Vec F S256x256 .f32) (x3 : Vec F S256x256 .f32) (x4 : Vec F S256x1 .f32) (x5 : Vec F S256x1 .f32) : Vec F S1x512 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 hc0 x0 x1 x2 x3 x4 x5).2.2.1)

/-- Case A's pieces for scratch `arg11`, which the kernel carries between points, cover it: 2 pieces of `S1x512` tiling it (Lib/Ring.lean `Piece.tiledL`). -/
theorem scover1_A_1 (c : Dev nD) (i : grid1.Coords) (arg2 : Memref sig .tc .vmem S512x512 .f32) (harg2 : arg2.IsWhole) (arg3 : Memref sig .tc .vmem S2x512 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S512x512 .f32) (harg8 : arg8.IsWhole) (arg9 : Memref sig .tc .vmem S512x2x512 .f32) (harg9 : arg9.IsWhole) (arg10 : Memref sig .tc .vmem S1x512 .f32) (harg10 : arg10.IsWhole) (arg11 : Memref sig .tc .vmem S1x512 .f32) (harg11 : arg11.IsWhole) (hc0 : cond1_0 i)
    (x0 : Vec F S512x512 .f32) (x1 : Vec F S2x512 .f32) (x2 : Vec F S256x256 .f32) (x3 : Vec F S256x256 .f32) (x4 : Vec F S256x1 .f32) (x5 : Vec F S256x1 .f32) (y : S1x512.Idx) :
    ∃ pc ∈ (kernelRun1_A c i arg2 harg2 arg3 harg3 arg4 harg4 arg5 harg5 arg6 harg6 arg7 harg7 arg8 harg8 arg9 harg9 arg10 harg10 arg11 harg11 hc0 x0 x1 x2 x3 x4 x5).2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 x0 x1 x2 x3 x4 x5).2.2.2.1 S1x512.size (by sl_kernel_rfl) y

/-- What case A leaves in scratch `arg11`: its pieces read back over junk. -/
def sout1_A_1 (c : Dev nD) (i : grid1.Coords) (arg2 : Memref sig .tc .vmem S512x512 .f32) (harg2 : arg2.IsWhole) (arg3 : Memref sig .tc .vmem S2x512 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S512x512 .f32) (harg8 : arg8.IsWhole) (arg9 : Memref sig .tc .vmem S512x2x512 .f32) (harg9 : arg9.IsWhole) (arg10 : Memref sig .tc .vmem S1x512 .f32) (harg10 : arg10.IsWhole) (arg11 : Memref sig .tc .vmem S1x512 .f32) (harg11 : arg11.IsWhole) (hc0 : cond1_0 i)
    (x0 : Vec F S512x512 .f32) (x1 : Vec F S2x512 .f32) (x2 : Vec F S256x256 .f32) (x3 : Vec F S256x256 .f32) (x4 : Vec F S256x1 .f32) (x5 : Vec F S256x1 .f32) : Vec F S1x512 .f32 :=
  VS1_1.read (Elt F) (VS1_1.writes (Elt F) VS1_1.junk (kernelRun1_A c i arg2 harg2 arg3 harg3 arg4 harg4 arg5 harg5 arg6 harg6 arg7 harg7 arg8 harg8 arg9 harg9 arg10 harg10 arg11 harg11 hc0 x0 x1 x2 x3 x4 x5).2.2.2.1)

/-- Case B's pieces for output 6 tile its block (2 stores of `S256x512`, checked by the kernel's evaluation: Lib/Ring.lean `Piece.tiledL`, linear in the pieces, through a loop's `@[irreducible]` trip theorem too), so they cover it. -/
theorem cover1_B_6 (c : Dev nD) (i : grid1.Coords) (arg2 : Memref sig .tc .vmem S512x512 .f32) (harg2 : arg2.IsWhole) (arg3 : Memref sig .tc .vmem S2x512 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S512x512 .f32) (harg8 : arg8.IsWhole) (arg9 : Memref sig .tc .vmem S512x2x512 .f32) (harg9 : arg9.IsWhole) (arg10 : Memref sig .tc .vmem S1x512 .f32) (harg10 : arg10.IsWhole) (arg11 : Memref sig .tc .vmem S1x512 .f32) (harg11 : arg11.IsWhole) (hc0 : ¬cond1_0 i)
    (x0 : Vec F S512x512 .f32) (x1 : Vec F S2x512 .f32) (x2 : Vec F S256x256 .f32) (x3 : Vec F S256x256 .f32) (x4 : Vec F S256x1 .f32) (x5 : Vec F S256x1 .f32) (xs0 : Vec F S1x512 .f32) (xs1 : Vec F S1x512 .f32) (y : S512x512.Idx) :
    ∃ pc ∈ (kernelRun1_B c i arg2 harg2 arg3 harg3 arg4 harg4 arg5 harg5 arg6 harg6 arg7 harg7 arg8 harg8 arg9 harg9 arg10 harg10 arg11 harg11 hc0 x0 x1 x2 x3 x4 x5 xs0 xs1).1, y ∈ pc.1.set :=
  View.cover_of_tiledL (kernelRun1_B c i arg2 harg2 arg3 harg3 arg4 harg4 arg5 harg5 arg6 harg6 arg7 harg7 arg8 harg8 arg9 harg9 arg10 harg10 arg11 harg11 hc0 x0 x1 x2 x3 x4 x5 xs0 xs1).1 S256x512.size (by sl_kernel_rfl) y

/-- What case B leaves in output 6's staging buffer: its pieces read back over junk. -/
def out1_B_6 (c : Dev nD) (i : grid1.Coords) (arg2 : Memref sig .tc .vmem S512x512 .f32) (harg2 : arg2.IsWhole) (arg3 : Memref sig .tc .vmem S2x512 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S512x512 .f32) (harg8 : arg8.IsWhole) (arg9 : Memref sig .tc .vmem S512x2x512 .f32) (harg9 : arg9.IsWhole) (arg10 : Memref sig .tc .vmem S1x512 .f32) (harg10 : arg10.IsWhole) (arg11 : Memref sig .tc .vmem S1x512 .f32) (harg11 : arg11.IsWhole) (hc0 : ¬cond1_0 i)
    (x0 : Vec F S512x512 .f32) (x1 : Vec F S2x512 .f32) (x2 : Vec F S256x256 .f32) (x3 : Vec F S256x256 .f32) (x4 : Vec F S256x1 .f32) (x5 : Vec F S256x1 .f32) (xs0 : Vec F S1x512 .f32) (xs1 : Vec F S1x512 .f32) : Vec F S512x512 .f32 :=
  VO1_6.read (Elt F) (VO1_6.writes (Elt F) VO1_6.junk (kernelRun1_B c i arg2 harg2 arg3 harg3 arg4 harg4 arg5 harg5 arg6 harg6 arg7 harg7 arg8 harg8 arg9 harg9 arg10 harg10 arg11 harg11 hc0 x0 x1 x2 x3 x4 x5 xs0 xs1).1)

/-- Case B's pieces for output 7 tile its block (4 stores of `S256x1x512`, checked by the kernel's evaluation: Lib/Ring.lean `Piece.tiledL`, linear in the pieces, through a loop's `@[irreducible]` trip theorem too), so they cover it. -/
theorem cover1_B_7 (c : Dev nD) (i : grid1.Coords) (arg2 : Memref sig .tc .vmem S512x512 .f32) (harg2 : arg2.IsWhole) (arg3 : Memref sig .tc .vmem S2x512 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S512x512 .f32) (harg8 : arg8.IsWhole) (arg9 : Memref sig .tc .vmem S512x2x512 .f32) (harg9 : arg9.IsWhole) (arg10 : Memref sig .tc .vmem S1x512 .f32) (harg10 : arg10.IsWhole) (arg11 : Memref sig .tc .vmem S1x512 .f32) (harg11 : arg11.IsWhole) (hc0 : ¬cond1_0 i)
    (x0 : Vec F S512x512 .f32) (x1 : Vec F S2x512 .f32) (x2 : Vec F S256x256 .f32) (x3 : Vec F S256x256 .f32) (x4 : Vec F S256x1 .f32) (x5 : Vec F S256x1 .f32) (xs0 : Vec F S1x512 .f32) (xs1 : Vec F S1x512 .f32) (y : S512x2x512.Idx) :
    ∃ pc ∈ (kernelRun1_B c i arg2 harg2 arg3 harg3 arg4 harg4 arg5 harg5 arg6 harg6 arg7 harg7 arg8 harg8 arg9 harg9 arg10 harg10 arg11 harg11 hc0 x0 x1 x2 x3 x4 x5 xs0 xs1).2.1, y ∈ pc.1.set :=
  View.cover_of_tiledL (kernelRun1_B c i arg2 harg2 arg3 harg3 arg4 harg4 arg5 harg5 arg6 harg6 arg7 harg7 arg8 harg8 arg9 harg9 arg10 harg10 arg11 harg11 hc0 x0 x1 x2 x3 x4 x5 xs0 xs1).2.1 S256x1x512.size (by sl_kernel_rfl) y

/-- What case B leaves in output 7's staging buffer: its pieces read back over junk. -/
def out1_B_7 (c : Dev nD) (i : grid1.Coords) (arg2 : Memref sig .tc .vmem S512x512 .f32) (harg2 : arg2.IsWhole) (arg3 : Memref sig .tc .vmem S2x512 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S512x512 .f32) (harg8 : arg8.IsWhole) (arg9 : Memref sig .tc .vmem S512x2x512 .f32) (harg9 : arg9.IsWhole) (arg10 : Memref sig .tc .vmem S1x512 .f32) (harg10 : arg10.IsWhole) (arg11 : Memref sig .tc .vmem S1x512 .f32) (harg11 : arg11.IsWhole) (hc0 : ¬cond1_0 i)
    (x0 : Vec F S512x512 .f32) (x1 : Vec F S2x512 .f32) (x2 : Vec F S256x256 .f32) (x3 : Vec F S256x256 .f32) (x4 : Vec F S256x1 .f32) (x5 : Vec F S256x1 .f32) (xs0 : Vec F S1x512 .f32) (xs1 : Vec F S1x512 .f32) : Vec F S512x2x512 .f32 :=
  VO1_7.read (Elt F) (VO1_7.writes (Elt F) VO1_7.junk (kernelRun1_B c i arg2 harg2 arg3 harg3 arg4 harg4 arg5 harg5 arg6 harg6 arg7 harg7 arg8 harg8 arg9 harg9 arg10 harg10 arg11 harg11 hc0 x0 x1 x2 x3 x4 x5 xs0 xs1).2.1)

/-- Case B's pieces for scratch `arg10`, which the kernel carries between points, cover it: 1 piece of `S1x512` tiling it (Lib/Ring.lean `Piece.tiledL`). -/
theorem scover1_B_0 (c : Dev nD) (i : grid1.Coords) (arg2 : Memref sig .tc .vmem S512x512 .f32) (harg2 : arg2.IsWhole) (arg3 : Memref sig .tc .vmem S2x512 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S512x512 .f32) (harg8 : arg8.IsWhole) (arg9 : Memref sig .tc .vmem S512x2x512 .f32) (harg9 : arg9.IsWhole) (arg10 : Memref sig .tc .vmem S1x512 .f32) (harg10 : arg10.IsWhole) (arg11 : Memref sig .tc .vmem S1x512 .f32) (harg11 : arg11.IsWhole) (hc0 : ¬cond1_0 i)
    (x0 : Vec F S512x512 .f32) (x1 : Vec F S2x512 .f32) (x2 : Vec F S256x256 .f32) (x3 : Vec F S256x256 .f32) (x4 : Vec F S256x1 .f32) (x5 : Vec F S256x1 .f32) (xs0 : Vec F S1x512 .f32) (xs1 : Vec F S1x512 .f32) (y : S1x512.Idx) :
    ∃ pc ∈ (kernelRun1_B c i arg2 harg2 arg3 harg3 arg4 harg4 arg5 harg5 arg6 harg6 arg7 harg7 arg8 harg8 arg9 harg9 arg10 harg10 arg11 harg11 hc0 x0 x1 x2 x3 x4 x5 xs0 xs1).2.2.1, y ∈ pc.1.set :=
  View.cover_of_tiledL (kernelRun1_B c i arg2 harg2 arg3 harg3 arg4 harg4 arg5 harg5 arg6 harg6 arg7 harg7 arg8 harg8 arg9 harg9 arg10 harg10 arg11 harg11 hc0 x0 x1 x2 x3 x4 x5 xs0 xs1).2.2.1 S1x512.size (by sl_kernel_rfl) y

/-- What case B leaves in scratch `arg10`: its pieces read back over junk. -/
def sout1_B_0 (c : Dev nD) (i : grid1.Coords) (arg2 : Memref sig .tc .vmem S512x512 .f32) (harg2 : arg2.IsWhole) (arg3 : Memref sig .tc .vmem S2x512 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S512x512 .f32) (harg8 : arg8.IsWhole) (arg9 : Memref sig .tc .vmem S512x2x512 .f32) (harg9 : arg9.IsWhole) (arg10 : Memref sig .tc .vmem S1x512 .f32) (harg10 : arg10.IsWhole) (arg11 : Memref sig .tc .vmem S1x512 .f32) (harg11 : arg11.IsWhole) (hc0 : ¬cond1_0 i)
    (x0 : Vec F S512x512 .f32) (x1 : Vec F S2x512 .f32) (x2 : Vec F S256x256 .f32) (x3 : Vec F S256x256 .f32) (x4 : Vec F S256x1 .f32) (x5 : Vec F S256x1 .f32) (xs0 : Vec F S1x512 .f32) (xs1 : Vec F S1x512 .f32) : Vec F S1x512 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 arg11 harg11 hc0 x0 x1 x2 x3 x4 x5 xs0 xs1).2.2.1)

/-- Case B's pieces for scratch `arg11`, which the kernel carries between points, cover it: 1 piece of `S1x512` tiling it (Lib/Ring.lean `Piece.tiledL`). -/
theorem scover1_B_1 (c : Dev nD) (i : grid1.Coords) (arg2 : Memref sig .tc .vmem S512x512 .f32) (harg2 : arg2.IsWhole) (arg3 : Memref sig .tc .vmem S2x512 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S512x512 .f32) (harg8 : arg8.IsWhole) (arg9 : Memref sig .tc .vmem S512x2x512 .f32) (harg9 : arg9.IsWhole) (arg10 : Memref sig .tc .vmem S1x512 .f32) (harg10 : arg10.IsWhole) (arg11 : Memref sig .tc .vmem S1x512 .f32) (harg11 : arg11.IsWhole) (hc0 : ¬cond1_0 i)
    (x0 : Vec F S512x512 .f32) (x1 : Vec F S2x512 .f32) (x2 : Vec F S256x256 .f32) (x3 : Vec F S256x256 .f32) (x4 : Vec F S256x1 .f32) (x5 : Vec F S256x1 .f32) (xs0 : Vec F S1x512 .f32) (xs1 : Vec F S1x512 .f32) (y : S1x512.Idx) :
    ∃ pc ∈ (kernelRun1_B c i arg2 harg2 arg3 harg3 arg4 harg4 arg5 harg5 arg6 harg6 arg7 harg7 arg8 harg8 arg9 harg9 arg10 harg10 arg11 harg11 hc0 x0 x1 x2 x3 x4 x5 xs0 xs1).2.2.2.1, y ∈ pc.1.set :=
  View.cover_of_tiledL (kernelRun1_B c i arg2 harg2 arg3 harg3 arg4 harg4 arg5 harg5 arg6 harg6 arg7 harg7 arg8 harg8 arg9 harg9 arg10 harg10 arg11 harg11 hc0 x0 x1 x2 x3 x4 x5 xs0 xs1).2.2.2.1 S1x512.size (by sl_kernel_rfl) y

/-- What case B leaves in scratch `arg11`: its pieces read back over junk. -/
def sout1_B_1 (c : Dev nD) (i : grid1.Coords) (arg2 : Memref sig .tc .vmem S512x512 .f32) (harg2 : arg2.IsWhole) (arg3 : Memref sig .tc .vmem S2x512 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S512x512 .f32) (harg8 : arg8.IsWhole) (arg9 : Memref sig .tc .vmem S512x2x512 .f32) (harg9 : arg9.IsWhole) (arg10 : Memref sig .tc .vmem S1x512 .f32) (harg10 : arg10.IsWhole) (arg11 : Memref sig .tc .vmem S1x512 .f32) (harg11 : arg11.IsWhole) (hc0 : ¬cond1_0 i)
    (x0 : Vec F S512x512 .f32) (x1 : Vec F S2x512 .f32) (x2 : Vec F S256x256 .f32) (x3 : Vec F S256x256 .f32) (x4 : Vec F S256x1 .f32) (x5 : Vec F S256x1 .f32) (xs0 : Vec F S1x512 .f32) (xs1 : Vec F S1x512 .f32) : Vec F S1x512 .f32 :=
  VS1_1.read (Elt F) (VS1_1.writes (Elt F) VS1_1.junk (kernelRun1_B c i arg2 harg2 arg3 harg3 arg4 harg4 arg5 harg5 arg6 harg6 arg7 harg7 arg8 harg8 arg9 harg9 arg10 harg10 arg11 harg11 hc0 x0 x1 x2 x3 x4 x5 xs0 xs1).2.2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before1_W_κ`). An assignment of the conditions no point meets is no case (`False.elim`). -/
def outsAt1 (c : Dev nD) : (n : ℕ) → n < cfg1.N → Vec F S512x512 .f32 × Vec F S512x2x512 .f32 × Vec F S1x512 .f32 × Vec F S1x512 .f32
  | 0, hn => (out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) scM1_1 (Memref.isWhole_whole _) ((hcond1_0 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩), out1_A_7 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) scM1_1 (Memref.isWhole_whole _) ((hcond1_0 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) scM1_1 (Memref.isWhole_whole _) ((hcond1_0 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) scM1_1 (Memref.isWhole_whole _) ((hcond1_0 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩))
  | n + 1, hn =>
    if h0 : (n + 1) % 64 = 0 then
      (out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) ((hcond1_0 ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩), out1_A_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) ((hcond1_0 ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) ((hcond1_0 ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) ((hcond1_0 ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩))
    else
      (out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => h0 ((hcond1_0 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt1 c n (Nat.lt_of_succ_lt hn)).2.2.1 (outsAt1 c n (Nat.lt_of_succ_lt hn)).2.2.2, out1_B_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => h0 ((hcond1_0 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt1 c n (Nat.lt_of_succ_lt hn)).2.2.1 (outsAt1 c n (Nat.lt_of_succ_lt hn)).2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => h0 ((hcond1_0 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) scM1_1 (Memref.isWhole_whole _) (fun h => h0 ((hcond1_0 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt1 c n (Nat.lt_of_succ_lt hn)).2.2.1 (outsAt1 c n (Nat.lt_of_succ_lt hn)).2.2.2)

/-- `outsAt1` at a point of case A: that case's contents. -/
theorem outsAt1_A (c : Dev nD) (t : Fin cfg1.N) (h0 : t.val % 64 = 0) :
    outsAt1 V c t.val t.isLt = (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (iblk V c 0 t) (iblk V c 1 t) (iblk V c 2 t) (iblk V c 3 t) (iblk V c 4 t) (iblk V c 5 t), out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (iblk V c 0 t) (iblk V c 1 t) (iblk V c 2 t) (iblk V c 3 t) (iblk V c 4 t) (iblk V c 5 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (iblk V c 0 t) (iblk V c 1 t) (iblk V c 2 t) (iblk V c 3 t) (iblk V c 4 t) (iblk V c 5 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) ((hcond1_0 t).mpr h0) (iblk V c 0 t) (iblk V c 1 t) (iblk V c 2 t) (iblk V c 3 t) (iblk V c 4 t) (iblk V c 5 t)) := by
  obtain ⟨n, hn⟩ := t
  cases n with
  | zero => exact rfl
  | succ n => exact (dif_pos h0).trans rfl

/-- `outsAt1` at a point of case B: that case's contents, over what the point before left. -/
theorem outsAt1_B (c : Dev nD) (t : Fin cfg1.N) (h0 : ¬t.val % 64 = 0) :
    outsAt1 V c t.val t.isLt = (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (iblk V c 0 t) (iblk V c 1 t) (iblk V c 2 t) (iblk V c 3 t) (iblk V c 4 t) (iblk V c 5 t) (outsAt1 V c (t.val - 1) (Nat.lt_of_le_of_lt (Nat.sub_le _ _) t.isLt)).2.2.1 (outsAt1 V c (t.val - 1) (Nat.lt_of_le_of_lt (Nat.sub_le _ _) t.isLt)).2.2.2, out1_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (iblk V c 0 t) (iblk V c 1 t) (iblk V c 2 t) (iblk V c 3 t) (iblk V c 4 t) (iblk V c 5 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (iblk V c 0 t) (iblk V c 1 t) (iblk V c 2 t) (iblk V c 3 t) (iblk V c 4 t) (iblk V c 5 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) (fun h => h0 ((hcond1_0 t).mp h)) (iblk V c 0 t) (iblk V c 1 t) (iblk V c 2 t) (iblk V c 3 t) (iblk V c 4 t) (iblk V c 5 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt1`'s scratch components), the others at anything, and the generator register
    at some state. -/
def PhiS (c : Dev nD) : (n : ℕ) → n ≤ cfg1.N → sProp 𝕄
  | 0, _ => Pipeline.ΦA spec1 c
  | n + 1, hn => iprop(iprop(owns (c : Thread nD τ) scM1_0 fullShare ((outsAt1 V c n hn).2.2.1) ∗ owns (c : Thread nD τ) scM1_1 fullShare ((outsAt1 V c n hn).2.2.2)) ∗ oth c)

/-- Before the first grid point the invariant is the buffers' as the call is entered. -/
theorem PhiS_zero (c : Dev nD) (n : ℕ) (h : n ≤ cfg1.N) (hz : n = 0) : PhiS V c n h = Pipeline.ΦA spec1 c := by
  subst hz; rfl

/-- After point `n` (before point `n + 1`): the carried scratch at that point's contents. -/
theorem PhiS_succ (c : Dev nD) (n : ℕ) (hn : n < cfg1.N) :
    PhiS V c (n + 1) hn = iprop(iprop(owns (c : Thread nD τ) scM1_0 fullShare ((outsAt1 V c n hn).2.2.1) ∗ owns (c : Thread nD τ) scM1_1 fullShare ((outsAt1 V c n hn).2.2.2)) ∗ oth c) := rfl

/-- Before a point that is not the first: the carried scratch at what the point before left. -/
theorem PhiS_pos (c : Dev nD) (n : ℕ) (h : n ≤ cfg1.N) (hz : n ≠ 0) :
    PhiS V c n h = iprop(iprop(owns (c : Thread nD τ) scM1_0 fullShare ((outsAt1 V c (n - 1) (by omega)).2.2.1) ∗ owns (c : Thread nD τ) scM1_1 fullShare ((outsAt1 V c (n - 1) (by omega)).2.2.2)) ∗ oth c) := by
  cases n with
  | zero => exact absurd rfl hz
  | succ n => rfl

/-! ## The pipeline's proof data -/

/-- The proof data of the one pipeline on core `c`: the arrays as the region finds them (`V`); after the body at
    point `t` each input's buffer at its block and the outputs' at `outsAt1`; the invariant the class's
    (`PhiS`: the class's `ΦA` before the first point, then the scoped rest with the carried scratch at `outsAt1`'s component);
    nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => (outsAt1 V c t.val t.isLt).1
    | ⟨7, _⟩ => (outsAt1 V c t.val t.isLt).2.1
  Φ t := PhiS V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg1.W) : (dat V c).A w = V c (Pipeline.arrRef spec1 w) := by
  dsimp only [dat]

/-- The invariant at a point's start (the proof data at `t.castSucc`), restated at `t.val`. -/
theorem PhiS_castSucc (c : Dev nD) (t : Fin cfg1.N) :
    (dat V c).Φ t.castSucc = PhiS V c t.val (Nat.le_of_lt t.isLt) := by
  dsimp only [dat]; exact Pipeline.Dat.Φ_castSucc (PhiS V c) t

/-- What the body leaves, window by window (the proof data's `match` reduced by `dsimp`). -/
theorem after1_0 (c : Dev nD) (t : Fin cfg1.N) : (dat V c).after 0 t = iblk V c 0 t := by dsimp only [dat]
/-- After a point the staging buffer of window 1 holds its block. -/
theorem after1_1 (c : Dev nD) (t : Fin cfg1.N) : (dat V c).after 1 t = iblk V c 1 t := by dsimp only [dat]
/-- After a point the staging buffer of window 2 holds its block. -/
theorem after1_2 (c : Dev nD) (t : Fin cfg1.N) : (dat V c).after 2 t = iblk V c 2 t := by dsimp only [dat]
/-- After a point the staging buffer of window 3 holds its block. -/
theorem after1_3 (c : Dev nD) (t : Fin cfg1.N) : (dat V c).after 3 t = iblk V c 3 t := by dsimp only [dat]
/-- After a point the staging buffer of window 4 holds its block. -/
theorem after1_4 (c : Dev nD) (t : Fin cfg1.N) : (dat V c).after 4 t = iblk V c 4 t := by dsimp only [dat]
/-- After a point the staging buffer of window 5 holds its block. -/
theorem after1_5 (c : Dev nD) (t : Fin cfg1.N) : (dat V c).after 5 t = iblk V c 5 t := by dsimp only [dat]
/-- After a point the staging buffer of window 6 holds what the body wrote there. -/
theorem after1_6 (c : Dev nD) (t : Fin cfg1.N) : (dat V c).after 6 t = (outsAt1 V c t.val t.isLt).1 := by dsimp only [dat]
/-- After a point the staging buffer of window 7 holds what the body wrote there. -/
theorem after1_7 (c : Dev nD) (t : Fin cfg1.N) : (dat V c).after 7 t = (outsAt1 V c t.val t.isLt).2.1 := by dsimp only [dat]

/-- Each input's current staging buffer holds its block at every point, fetched there or not (`beforeK_W_of`). -/
theorem before1_0 (c : Dev nD) (t : Fin cfg1.N) (d) : (dat V c).before 0 t d = iblk V c 0 t :=
  before1_0_of V (dat V c) (A_eq V c 0) (after1_0 V c) t d
/-- Before a point the staging buffer of window 1 holds its block. -/
theorem before1_1 (c : Dev nD) (t : Fin cfg1.N) (d) : (dat V c).before 1 t d = iblk V c 1 t :=
  before1_1_of V (dat V c) (A_eq V c 1) (after1_1 V c) t d
/-- Before a point the staging buffer of window 2 holds its block. -/
theorem before1_2 (c : Dev nD) (t : Fin cfg1.N) (d) : (dat V c).before 2 t d = iblk V c 2 t :=
  before1_2_of V (dat V c) (A_eq V c 2) (after1_2 V c) t d
/-- Before a point the staging buffer of window 3 holds its block. -/
theorem before1_3 (c : Dev nD) (t : Fin cfg1.N) (d) : (dat V c).before 3 t d = iblk V c 3 t :=
  before1_3_of V (dat V c) (A_eq V c 3) (after1_3 V c) t d
/-- Before a point the staging buffer of window 4 holds its block. -/
theorem before1_4 (c : Dev nD) (t : Fin cfg1.N) (d) : (dat V c).before 4 t d = iblk V c 4 t :=
  before1_4_of V (dat V c) (A_eq V c 4) (after1_4 V c) t d
/-- Before a point the staging buffer of window 5 holds its block. -/
theorem before1_5 (c : Dev nD) (t : Fin cfg1.N) (d) : (dat V c).before 5 t d = iblk V c 5 t :=
  before1_5_of V (dat V c) (A_eq V c 5) (after1_5 V c) t d

/-! ## The body obligation, at a generic point -/

/-- What the body is called with at point `t` (Lib/Pipeline.lean `BodyObligation`'s precondition, the windows one by one), -/
def bodyPre (c : Dev nD) (t : Fin cfg1.N) : sProp 𝕄 :=
  iprop((dat V c).Φ t.castSucc ∗ (dat V c).owesAt () t.castSucc
    ∗ (∃ d, owns (c : Thread nD τ) (ms1_0 t) fullShare ((dat V c).before 0 t d))
    ∗ (∃ d, owns (c : Thread nD τ) (ms1_1 t) fullShare ((dat V c).before 1 t d))
    ∗ (∃ d, owns (c : Thread nD τ) (ms1_2 t) fullShare ((dat V c).before 2 t d))
    ∗ (∃ d, owns (c : Thread nD τ) (ms1_3 t) fullShare ((dat V c).before 3 t d))
    ∗ (∃ d, owns (c : Thread nD τ) (ms1_4 t) fullShare ((dat V c).before 4 t d))
    ∗ (∃ d, owns (c : Thread nD τ) (ms1_5 t) fullShare ((dat V c).before 5 t d))
    ∗ (∃ d, owns (c : Thread nD τ) (ms1_6 t) fullShare ((dat V c).before 6 t d))
    ∗ (∃ d, owns (c : Thread nD τ) (ms1_7 t) fullShare ((dat V c).before 7 t d)))

/-- and what it returns. -/
def bodyPost (c : Dev nD) (t : Fin cfg1.N) : sProp 𝕄 :=
  iprop((dat V c).Φ t.succ ∗ (dat V c).owesAt () t.succ
    ∗ owns (c : Thread nD τ) (ms1_0 t) fullShare ((dat V c).after 0 t)
    ∗ owns (c : Thread nD τ) (ms1_1 t) fullShare ((dat V c).after 1 t)
    ∗ owns (c : Thread nD τ) (ms1_2 t) fullShare ((dat V c).after 2 t)
    ∗ owns (c : Thread nD τ) (ms1_3 t) fullShare ((dat V c).after 3 t)
    ∗ owns (c : Thread nD τ) (ms1_4 t) fullShare ((dat V c).after 4 t)
    ∗ owns (c : Thread nD τ) (ms1_5 t) fullShare ((dat V c).after 5 t)
    ∗ owns (c : Thread nD τ) (ms1_6 t) fullShare ((dat V c).after 6 t)
    ∗ owns (c : Thread nD τ) (ms1_7 t) fullShare ((dat V c).after 7 t))

set_option maxHeartbeats 6400000 in
/-- The body at any point: the inputs' memrefs hold their blocks (`before1_W`); the closed forms say which case the point is in (`by_cases`), an output the case reads before covering holds what the point before left (`before1_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2, before1_3, before1_4, before1_5]
  rw [show (dat V c).owesAt () t.succ = (dat V c).owesAt () t.castSucc from rfl,
    after1_0, after1_1, after1_2, after1_3, after1_4, after1_5, after1_6, after1_7]
  rw [show (dat V c).Φ t.succ = PhiS V c (t.val + 1) t.isLt from rfl, PhiS_succ]
  have hN : t.val < 128 := lt_of_lt_of_eq t.isLt (show cfg1.N = 128 from N_1)
  by_cases h0 : t.val % 64 = 0
  · by_cases hz : t.val = 0
    · rw [PhiS_castSucc V c t, PhiS_zero V c _ _ hz, PhiA1_eq]
      rw [outsAt1_A V c t h0]
      unfold out1_A_6 out1_A_7 sout1_A_0 sout1_A_1; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_A c (grid1.coords t) _ _ _ _ _ _ _ _ _ _ _ _ _ _ _ _ _ _ _ _ ((hcond1_0 t).mpr h0) (iblk V c 0 t) (iblk V c 1 t) (iblk V c 2 t) (iblk V c 3 t) (iblk V c 4 t) (iblk V c 5 t)).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      iintro ⟨H0, H1, H2, H3, H4, H5, ⟨%e6, H6⟩, ⟨%e7, H7⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _ _ _)
          unfold owns; iexists _; isplitr
          swap; · iexact HS1
          ipureintro; exact View.read_writes_of_cover _ _ _ _ _ (scover1_A_1 c _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover1_A_6 c _ _ _ _ _ _ _ _ _ _ _ _ _ _ _ _ _ _ _ _ _ _ _ _ _ _ _ _)
      unfold owns; iexists _; isplitr
      swap; · iexact H7
      ipureintro; exact View.read_writes_of_cover _ _ _ _ _ (cover1_A_7 c _ _ _ _ _ _ _ _ _ _ _ _ _ _ _ _ _ _ _ _ _ _ _ _ _ _ _ _)
    · rw [PhiS_castSucc V c t, PhiS_pos V c _ _ hz]
      rw [outsAt1_A V c t h0]
      unfold out1_A_6 out1_A_7 sout1_A_0 sout1_A_1; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_A c (grid1.coords t) _ _ _ _ _ _ _ _ _ _ _ _ _ _ _ _ _ _ _ _ ((hcond1_0 t).mpr h0) (iblk V c 0 t) (iblk V c 1 t) (iblk V c 2 t) (iblk V c 3 t) (iblk V c 4 t) (iblk V c 5 t)).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexists _; iexact HS0
      isplitl [HS1]; · iexists _; iexact HS1
      iintro ⟨H0, H1, H2, H3, H4, H5, ⟨%e6, H6⟩, ⟨%e7, H7⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _ _ _)
          unfold owns; iexists _; isplitr
          swap; · iexact HS1
          ipureintro; exact View.read_writes_of_cover _ _ _ _ _ (scover1_A_1 c _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover1_A_6 c _ _ _ _ _ _ _ _ _ _ _ _ _ _ _ _ _ _ _ _ _ _ _ _ _ _ _ _)
      unfold owns; iexists _; isplitr
      swap; · iexact H7
      ipureintro; exact View.read_writes_of_cover _ _ _ _ _ (cover1_A_7 c _ _ _ _ _ _ _ _ _ _ _ _ _ _ _ _ _ _ _ _ _ _ _ _ _ _ _ _)
  · by_cases hz : t.val = 0
    · exfalso; have hN : t.val < 128 := lt_of_lt_of_eq t.isLt (show cfg1.N = 128 from N_1); omega
    · rw [PhiS_castSucc V c t, PhiS_pos V c _ _ hz]
      rw [outsAt1_B V c t h0]
      unfold out1_B_6 out1_B_7 sout1_B_0 sout1_B_1; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_B c (grid1.coords t) _ _ _ _ _ _ _ _ _ _ _ _ _ _ _ _ _ _ _ _ (fun h => h0 ((hcond1_0 t).mp h)) (iblk V c 0 t) (iblk V c 1 t) (iblk V c 2 t) (iblk V c 3 t) (iblk V c 4 t) (iblk V c 5 t) _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      iintro ⟨H0, H1, H2, H3, H4, H5, ⟨%e6, H6⟩, ⟨%e7, H7⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _ _ _ _ _ _)
          unfold owns; iexists _; isplitr
          swap; · iexact HS1
          ipureintro; exact View.read_writes_of_cover _ _ _ _ _ (scover1_B_1 c _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover1_B_6 c _ _ _ _ _ _ _ _ _ _ _ _ _ _ _ _ _ _ _ _ _ _ _ _ _ _ _ _ _ _)
      unfold owns; iexists _; isplitr
      swap; · iexact H7
      ipureintro; exact View.read_writes_of_cover _ _ _ _ _ (cover1_B_7 c _ _ _ _ _ _ _ _ _ _ _ _ _ _ _ _ _ _ _ _ _ _ _ _ _ _ _ _ _ _)

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation (c : Dev nD) : BodyObligation (dat V c) (defs₀ (F := F)) Variants.none () Set.univ := fun t => by
  rw [bigSep_W1, bigSep_W1, defs₀_row]
  exact triple_restated (sound_body V c t) rfl .rfl fun _ => .rfl

/-- What the launch hands the region (`ΦA`) is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA1_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dat V c).Φ (Fin.last cfg1.N) ⊢ Pipeline.ΦA spec1 c :=
  Phi_out V c _ (by rw [Fin.val_last]; have : cfg1.N = 128 := N_1; omega)

end Cert.KernelIdeal.R1

end
-- ==== Proof.Run.lean ====
/- The whole program: the two calls and the host operations between them as items of @main, the run, and the frame claim. -/
module

public import proofs.«01_k».proof.Proof.Gen.KernelIdeal.Regions
public import proofs.«01_k».proof.Proof.R0Frame
public import proofs.«01_k».proof.Proof.R1Frame

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No level is assigned: no wait of this program is ordered against another. -/
abbrev noL : GSem nD τ sig → Finset Unit := fun _ => ∅
/-- The levels, all zero. -/
abbrev noLv : GSem nD τ sig → Unit → ℕ := fun _ _ => 0

/-- What a core holds beside its buffers between any two items of @main: the generator register, and that it owes nothing. -/
def rest (c : Dev nD) : sProp 𝕄 := iprop((∃ r, prngReg c r) ∗ ∃ W, owes (c.tc : Thread nD τ) (0 : CellTallies nD τ sig Unit) W)

/-- A pipelined call as an item of @main: entered from every unscoped buffer held at `W`, left with the windows' arrays as the
    pipeline's proof data says and every other buffer unmoved. -/
def regSeg (dats : (p : Fin 2) → (c : Dev nD) → Dat τ (Elt F) Unit ℕ (UR sig nD τ) ℕ (cfgs p) c) (p : Fin 2)
    (kit : Pipeline.LaunchFacts (nD := nD) (τ := τ) cfgs p)
    (hbody : ∀ c, Pipeline.BodyObligationLoose (dats p c) (defs₀ (F := F)) Variants.none () Set.univ)
    (howed : ∀ c t, (dats p c).owed t = 0) (hrec : ∀ c, (dats p c).recorded 0 = Set.univ) (hshare : ∀ c w, (dats p c).share w = fullShare)
    (W : Dev nD → Valuation τ sig (Elt F))
    (hA : ∀ c w, (dats p c).A w = W c (Proc.devRef .tc (Pipeline.arrRef (cfgs p).spec w)))
    (hin : ∀ c, Pipeline.ΦA (cfgs p).spec c ⊢ (dats p c).Φ 0)
    (hout : ∀ c, (dats p c).Φ (Fin.last (cfgs p).N) ⊢ Pipeline.ΦA (cfgs p).spec c) :
    Pipeline.RegionSeg (pcfgs (F := F)) adm dats () (defs₀ (F := F)) Variants.none noL noLv p :=
  have kitP : Pipeline.PLaunchFacts (nD := nD) (τ := τ) (pcfgs (F := F)) p := kit.toP
  { win := kitP.win.to₀
    block_pos := kitP.block_pos
    stage_whole := kitP.stage_whole
    K := PEmpty
    osem := fun k => k.elim
    ho := Pipeline.OwnSemFacts.none _
    hbody := hbody
    hwaits := Pipeline.hwaits_of_owed_zero (pcfgs (F := F)) adm dats () noL noLv p howed
    pre := fun c => iprop(StableHlo.held (c.tc : Thread nD τ) (Pipeline.ucRefs τ sig) (W c) ∗ rest c)
    post := fun c => iprop(StableHlo.held (c.tc : Thread nD τ) (Pipeline.ucRefs τ sig) (Pipeline.afterRegion (dats p c) (W c)) ∗ rest c)
    X := fun c => iprop(∃ r, prngReg c r)
    Y := fun c => iprop(∃ r, prngReg c r)
    Z := fun c => Pipeline.unscopedRest (Ix := Unit) (Name := ℕ) (U := UR sig nD τ) (Lvl := ℕ) (cfgs p).spec c (fun b => W c (Proc.devRef .tc b))
    hentry := fun c => by
      rw [Pipeline.ownSems0_none,
        show StableHlo.held (c.tc : Thread nD τ) (Pipeline.ucRefs τ sig) (W c) = unscopedBufs c (fun b => W c (Proc.devRef .tc b))
          from (Pipeline.unscopedBufs_held (Ix := Unit) (Name := ℕ) (U := UR sig nD τ) (Lvl := ℕ) c (W c)).symm]
      have hsplit := Pipeline.arrays_of_unscopedBufs (p := p) (pcfgs (F := F)) adm dats kitP.win kitP.arr_whole c (hshare c)
        (fun b => W c (Proc.devRef .tc b)) (fun w => hA c w)
      unfold rest
      iintro ⟨⟨Hub, Hp, HO⟩, -, -⟩
      ihave H := hsplit $$ Hub
      icases H with ⟨Ha, Hrest⟩
      imodintro
      isplitl [Ha]; · iexact Ha
      isplitr
      · unfold Pipeline.prefHeld
        iapply (show (BI.emp : sProp 𝕄) ⊢ bigSep (Finset.univ : Finset (Fin 0)) _ from by
          rw [show (Finset.univ : Finset (Fin 0)) = ∅ from rfl, BI.bigSep_empty])
        iempintro
      isplitl [HO]
      · unfold Dat.owesAt Pipeline.owesWithin
        rw [howed c 0]
        icases HO with ⟨%Wd, HO⟩
        iexists Wd; isplitr; · ipureintro; unfold Dat.bound; rw [hrec c]; simp
        iexact HO
      isplitl [Hp]; · iexact Hp
      iexact Hrest
    hin := fun c => (show _ ⊢ Pipeline.ΦA (cfgs p).spec c from by
      unfold Pipeline.ΦA; iintro ⟨Hp, -, Hr⟩
      isplitl [Hr] <;> iassumption).trans (hin c)
    hout := fun c => (hout c).trans (by
      rw [Pipeline.ownSems0_none]; unfold Pipeline.ΦA
      iintro ⟨Hr, Hp⟩
      isplitl [Hp]; · iexact Hp
      isplitr; · iempintro
      iexact Hr)
    hexit := fun c => by
      have hjoin := Pipeline.unscopedBufs_of_arrays (p := p) (pcfgs (F := F)) adm (Ix := Unit) (Name := ℕ) (U := UR sig nD τ) (Lvl := ℕ)
        kitP.win kitP.arr_whole c dats (hshare c)
        (fun b => W c (Proc.devRef .tc b)) (fun b => Pipeline.afterRegion (dats p c) (W c) (Proc.devRef .tc b)) ((dats p c).arrAt · (cfgs p).N)
        (fun w => (Pipeline.afterRegion_arr (dats p c) (W c) kit.win.arr_inj w).symm)
        (fun b hb => Pipeline.afterRegion_of_not_arr (dats p c) (W c)
          fun w h => hb (h ▸ Finset.mem_image.mpr ⟨w, Finset.mem_univ _, rfl⟩))
      rw [show StableHlo.held (c.tc : Thread nD τ) (Pipeline.ucRefs τ sig) (Pipeline.afterRegion (dats p c) (W c))
            = unscopedBufs c (fun b => Pipeline.afterRegion (dats p c) (W c) (Proc.devRef .tc b))
          from (Pipeline.unscopedBufs_held (Ix := Unit) (Name := ℕ) (U := UR sig nD τ) (Lvl := ℕ) c (Pipeline.afterRegion (dats p c) (W c))).symm]
      unfold rest
      iintro ⟨Ha, HO, Hp, Hrest⟩
      imodintro
      isplitl [Ha Hrest]
      · iapply hjoin; isplitl [Ha] <;> iassumption
      isplitl [Hp]; · iexact Hp
      unfold Dat.owesAt Pipeline.owesWithin
      rw [howed c (Fin.last _)]
      icases HO with ⟨%Wd, -, HO⟩; iexists Wd; iexact HO }

/-! ## The buffers' contents between the items of @main -/

/-- Before the statistics call: as launched. -/
def X0 (c : Dev nD) : Valuation τ sig (Elt F) := fun b => m (c, b)
/-- The statistics call's proof data, entered from the launch contents. -/
def D0 (c : Dev nD) : Dat τ (Elt F) Unit ℕ (UR sig nD τ) ℕ cfg0 c := R0.dat (fun c b => X0 m c (Proc.devRef .tc b)) c
/-- After the statistics call. -/
def X1 (c : Dev nD) : Valuation τ sig (Elt F) := Pipeline.afterRegion (D0 m c) (X0 m c)
/-- After the host operations that make the four tables. -/
def X6 (c : Dev nD) : Valuation τ sig (Elt F) :=
  StableHlo.after hostOps1_4 (StableHlo.after hostOps1_3 (StableHlo.after hostOps1_2 (StableHlo.after hostOps1_1 (StableHlo.after hostOps1 (X1 m c)))))
/-- The scan call's proof data, entered from there. -/
def D1 (c : Dev nD) : Dat τ (Elt F) Unit ℕ (UR sig nD τ) ℕ cfg1 c := R1.dat (fun c b => X6 m c (Proc.devRef .tc b)) c
/-- After the scan call. -/
def X7 (c : Dev nD) : Valuation τ sig (Elt F) := Pipeline.afterRegion (D1 m c) (X6 m c)
/-- After the reshape that ends @main. -/
def X8 (c : Dev nD) : Valuation τ sig (Elt F) := StableHlo.after hostOps2 (X7 m c)

/-- The two calls' proof data as one family. -/
def DD : (p : Fin 2) → (c : Dev nD) → Dat τ (Elt F) Unit ℕ (UR sig nD τ) ℕ (cfgs p) c
  | ⟨0, _⟩ => D0 m
  | ⟨1, _⟩ => D1 m

/-- The statistics call as an item of @main. -/
def S0 : Pipeline.RegionSeg (pcfgs (F := F)) adm (DD m) () (defs₀ (F := F)) Variants.none noL noLv 0 :=
  regSeg (DD m) 0 launch0 (fun c => (R0.body_obligation (fun c b => X0 m c (Proc.devRef .tc b)) c).loose) (fun _ _ => rfl) (fun _ => rfl)
    (fun c => (R0.dat (fun c b => X0 m c (Proc.devRef .tc b)) c).share_full fun _ => rfl) (X0 m)
    (R0.A_eq (fun c b => X0 m c (Proc.devRef .tc b))) (R0.hin (fun c b => X0 m c (Proc.devRef .tc b))) (R0.hout (fun c b => X0 m c (Proc.devRef .tc b)))

/-- The scan call as an item of @main. -/
def S1 : Pipeline.RegionSeg (pcfgs (F := F)) adm (DD m) () (defs₀ (F := F)) Variants.none noL noLv 1 :=
  regSeg (DD m) 1 launch1 (fun c => (R1.body_obligation (fun c b => X6 m c (Proc.devRef .tc b)) c).loose) (fun _ _ => rfl) (fun _ => rfl)
    (fun c => (R1.dat (fun c b => X6 m c (Proc.devRef .tc b)) c).share_full fun _ => rfl) (X6 m)
    (R1.A_eq (fun c b => X6 m c (Proc.devRef .tc b))) (R1.hin (fun c b => X6 m c (Proc.devRef .tc b))) (R1.hout (fun c b => X6 m c (Proc.devRef .tc b)))

/-- A stretch of host operations as an item of @main. -/
def hostSeg (ops : List (HloOp τ sig (Elt F))) (hs : ops.Forall fun op => op.bufs ⊆ StableHlo.tcRefs τ sig) (hf : ops.Forall fun op => op.fresh = ∅)
    (W : Dev nD → Valuation τ sig (Elt F)) : Pipeline.HostSeg (Name := ℕ) (U := UR sig nD τ) (pcfgs (F := F)) (defs₀ (F := F)) Variants.none noL noLv :=
  Pipeline.HostSeg.ofOps _ _ _ _ _ (Pipeline.ucRefs τ sig) ops
    (fun op h => Pipeline.sub_ucRefs op ((List.forall_iff_forall_mem.mp hs) op h))
    (fun op h => (List.forall_iff_forall_mem.mp hf) op h) W rest

/-- @main's items. -/
abbrev items : List (Pipeline.Seg (pcfgs (F := F)) adm (DD m) () (defs₀ (F := F)) Variants.none noL noLv) :=
  [.region (S0 m), .host (hostSeg hostOps1 hostOps1_sub hostOps1_fresh (X1 m)),
    .host (hostSeg hostOps1_1 hostOps1_1_sub hostOps1_1_fresh fun c => StableHlo.after hostOps1 (X1 m c)),
    .host (hostSeg hostOps1_2 hostOps1_2_sub hostOps1_2_fresh fun c => StableHlo.after hostOps1_1 (StableHlo.after hostOps1 (X1 m c))),
    .host (hostSeg hostOps1_3 hostOps1_3_sub hostOps1_3_fresh fun c => StableHlo.after hostOps1_2 (StableHlo.after hostOps1_1 (StableHlo.after hostOps1 (X1 m c)))),
    .host (hostSeg hostOps1_4 hostOps1_4_sub hostOps1_4_fresh fun c => StableHlo.after hostOps1_3 (StableHlo.after hostOps1_2 (StableHlo.after hostOps1_1 (StableHlo.after hostOps1 (X1 m c))))),
    .region (S1 m), .host (hostSeg hostOps2 hostOps2_sub hostOps2_fresh (X7 m))]

set_option backward.isDefEq.respectTransparency.types false in
/-- THE RUN: from any memory with zero counters every weakly fair execution of @main terminates with every unscoped buffer of a
    TensorCore at `X8`, and every semaphore counter at zero. -/
theorem run : θ_run defs (onTc (τ := τ) (main (F := F))) ⟨m, fun _ => 0, ρ⟩ (fun r =>
      (∀ (c : Dev nD), ∀ b ∈ Pipeline.ucRefs τ sig, r.2.mem ((c.tc : Thread nD τ).1, b) = X8 m c b) ∧ r.2.sem = fun _ => 0) := by
  refine Pipeline.θ_run_regions_kit_dev_sems (pcfgs (F := F)) adm (DD m) () cellOf_inj emb₁ (defs₀ (F := F)) Variants.none noL noLv m ρ main
    (fun _ => items m)
    (fun c Q => by
      rewrite [main_chain c, Pipeline.Seg.run_eq_chain,
        show (items m).map Pipeline.Seg.prog = [
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2 ] from rfl]
      dsimp (config := { failIfUnchanged := false }) only
      exact .rfl)
    (fun c => by simp only [items, Pipeline.Seg.pipes_host, Pipeline.Seg.pipes_region, Pipeline.Seg.pipes_nil]; decide) (O₀ := 0) (fun _ _ => rfl)
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c.tc : Thread nD τ) (Pipeline.ucRefs τ sig) (X0 m c) ∗ rest c))
    (Tₙ := fun c => StableHlo.held (c.tc : Thread nD τ) (Pipeline.ucRefs τ sig) (X8 m c))
    (hch := fun c => ⟨.rfl, .rfl, .rfl, .rfl, .rfl, .rfl, .rfl, .rfl,
      (show iprop(StableHlo.held (c.tc : Thread nD τ) (Pipeline.ucRefs τ sig) (X8 m c) ∗ rest c) ⊢ (_ : sProp 𝕄) from by
        unfold rest
        iintro ⟨Hh, -, HO⟩
        isplitl [Hh] <;> iassumption)⟩)
    (hinit := by
      refine Pipeline.initEach noL noLv fun c => ?_
      rw [show unscopedBufs c (fun b => m ((c.tc : Thread nD τ).loc b)) = StableHlo.held (c.tc : Thread nD τ) (Pipeline.ucRefs τ sig) (X0 m c)
          from Pipeline.unscopedBufs_held (Ix := Unit) (Name := ℕ) (U := UR sig nD τ) (Lvl := ℕ) c (X0 m c)]
      unfold rest
      iintro ⟨⟨Hh, -, HO, -, Hp, -⟩, -⟩
      imodintro
      isplitl [Hh]; · iexact Hh
      isplitl [Hp]; · iexists _; iexact Hp
      iexists _; iexact HO)
    (QY := fun c s => ∀ b ∈ Pipeline.ucRefs τ sig, s.mem ((c.tc : Thread nD τ).1, b) = X8 m c b)
    (hfin := fun c s' => by
      unfold StableHlo.held
      iintro ⟨Hh, HSI⟩
      ihave Hr := (pointsTo_read_all (Pipeline.ucRefs τ sig) (fun b => ((c.tc : Thread nD τ).1, b)) (X8 m c) s') $$ [Hh HSI]
      · isplitl [Hh] <;> iassumption
      imodintro; iexact Hr)
    (hQ := fun _ h hz => ⟨h, funext fun g => hz g (.inr (regions_no_unscoped g.2))⟩)

/-- An input window's array leaves a region as it entered. -/
theorem X1_arg (c : Dev nD) : X1 m c (Proc.devRef .tc main_arg0) = m ((c : Thread nD τ).loc main_arg0) :=
  (Pipeline.afterRegion_arr (D0 m c) (X0 m c) winFacts0.arr_inj 0).trans
    (((D0 m c).arrAt_in 0 rfl _).trans (R0.A_eq (fun c b => X0 m c (Proc.devRef .tc b)) c 0))

/-- The host operations between the calls do not write the argument. -/
theorem X6_arg (c : Dev nD) : X6 m c (Proc.devRef .tc main_arg0) = m ((c : Thread nD τ).loc main_arg0) := by
  unfold X6
  rw [StableHlo.after_of_writes_sub hostOps1_4 _ hostOps1_4_writes (by decide : main_arg0 ∉ hostOps1_4_W),
    StableHlo.after_of_writes_sub hostOps1_3 _ hostOps1_3_writes (by decide : main_arg0 ∉ hostOps1_3_W),
    StableHlo.after_of_writes_sub hostOps1_2 _ hostOps1_2_writes (by decide : main_arg0 ∉ hostOps1_2_W),
    StableHlo.after_of_writes_sub hostOps1_1 _ hostOps1_1_writes (by decide : main_arg0 ∉ hostOps1_1_W),
    StableHlo.after_of_writes_sub hostOps1 _ hostOps1_writes (by decide : main_arg0 ∉ hostOps1_W)]
  exact X1_arg m c

/-- The scan call does not change the argument. -/
theorem X7_arg (c : Dev nD) : X7 m c (Proc.devRef .tc main_arg0) = m ((c : Thread nD τ).loc main_arg0) :=
  (Pipeline.afterRegion_arr (D1 m c) (X6 m c) winFacts1.arr_inj 0).trans
    (((D1 m c).arrAt_in 0 rfl _).trans ((R1.A_eq (fun c b => X6 m c (Proc.devRef .tc b)) c 0).trans (X6_arg m c)))

/-- No item of @main changes the argument. -/
theorem X8_arg (c : Dev nD) : X8 m c (Proc.devRef .tc main_arg0) = m ((c : Thread nD τ).loc main_arg0) :=
  (StableHlo.after_of_writes_sub hostOps2 _ hostOps2_writes (by decide : main_arg0 ∉ hostOps2_W)).trans (X7_arg m c)

/-- The frame claim: @main terminates, leaves its argument as launched and every semaphore counter at zero. -/
theorem frame : θ_run defs (onTc (τ := τ) (main (F := F))) ⟨m, fun _ => 0, ρ⟩ (fun r =>
      (∀ c : Dev nD, r.2.mem ((c.tc : Thread nD τ).loc main_arg0) = m ((c.tc : Thread nD τ).loc main_arg0)) ∧ r.2.sem = fun _ => 0) :=
  θ_run_mono (run m ρ) fun _ h => ⟨fun c => (h.1 c _ (Pipeline.devRef_mem_ucRefs (by decide))).trans (X8_arg m c), h.2⟩

end Cert.KernelIdeal.Whole

end
-- ==== Proof.RefFrame.lean ====
/- The reference's frame: its run with what it writes forgotten, and no semaphore to end anywhere but at zero. -/
module

public import proofs.«01_k».proof.Proof.Gen.ReferenceIdeal.Run
public import Idealize.ShloMosaic.Lib.Quiescent
public import Idealize.ShloMosaic.Lib.Claim

@[expose] public section

noncomputable section

namespace Cert.ReferenceIdeal.Value

open Idealize.ShloMosaic Idealize.ShloMosaic.TcCoe Idealize.SL.Sem
open Cert.ReferenceIdeal

variable {F : FTy → Type} [FloatOps F]
variable (m : (ℓ : Loc nD τ sig) → Buf (Elt F) ℓ) (ρ : Dev nD → PrngReg)

/-- The reference terminates, leaves its argument as launched, and every semaphore counter at zero. -/
theorem frame : θ_run defs (onTc (τ := τ) (main (F := F))) ⟨m, fun _ => 0, ρ⟩ (fun r =>
      (∀ c : Dev nD, r.2.mem ((c.tc : Thread nD τ).loc main_arg0) = m ((c.tc : Thread nD τ).loc main_arg0)) ∧ r.2.sem = fun _ => 0) :=
  θ_run_mono (run m ρ) fun r h => ⟨fun c => (h c).2.2, sem_eq_zero_of_no_sems (by decide) r.2⟩

end Cert.ReferenceIdeal.Value

end
-- ==== Proof.Val.Spec.lean ====
module

public import Idealize.ShloMosaic.PureOps.Ideal
public import Mathlib.Analysis.SpecialFunctions.Pow.Real

@[expose] public section

noncomputable section

/-! The mathematics of the normaliser over the real numbers: the running mean and variance of one
    column, their closed form over a block of rows, and the column's starting mean and deviation. -/

namespace Cert.Spec

open scoped BigOperators

/-- The running value after `k` rows of the recurrence `s ← s · a + w · u_k`, started at `s0`. -/
def lin (a w : ℝ) (u : ℕ → ℝ) (s0 : ℝ) : ℕ → ℝ
  | 0 => s0
  | k + 1 => lin a w u s0 k * a + w * u k

/-- `i + 1` rows of the recurrence after row `n`, in closed form: every new row `j ≤ i` weighted by
    `w · a ^ (i - j)`, and the state before them by `a ^ (i + 1)`. -/
theorem lin_block (a w : ℝ) (u : ℕ → ℝ) (s0 : ℝ) (n i : ℕ) :
    lin a w u s0 (n + (i + 1))
      = (∑ j ∈ Finset.range (i + 1), w * a ^ (i - j) * u (n + j)) + a ^ (i + 1) * lin a w u s0 n := by
  induction i with
  | zero => simp [lin]; ring
  | succ i ih =>
    have e : lin a w u s0 (n + (i + 1 + 1)) = lin a w u s0 (n + (i + 1)) * a + w * u (n + (i + 1)) := rfl
    rw [e, ih, Finset.sum_range_succ _ (i + 1), add_mul, Finset.sum_mul]
    have h : ∀ j ∈ Finset.range (i + 1), w * a ^ (i - j) * u (n + j) * a = w * a ^ (i + 1 - j) * u (n + j) := by
      intro j hj
      rw [Finset.mem_range] at hj
      rw [show i + 1 - j = (i - j) + 1 by omega, pow_succ]; ring
    rw [Finset.sum_congr rfl h]
    simp only [Nat.sub_self, pow_zero]
    ring

/-- The closed form with the sum over a whole block of `N` rows, the rows after `i` weighted by zero. -/
theorem lin_block_fin (a w : ℝ) (u : ℕ → ℝ) (s0 : ℝ) (n N : ℕ) (i : Fin N) :
    (∑ j : Fin N, (if j.val ≤ i.val then w * a ^ (i.val - j.val) else 0) * u (n + j.val))
        + a ^ (i.val + 1) * lin a w u s0 n
      = lin a w u s0 (n + (i.val + 1)) := by
  rw [lin_block, Fin.sum_univ_eq_sum_range
    (fun j => (if j ≤ i.val then w * a ^ (i.val - j) else 0) * u (n + j)) N]
  congr 1
  rw [← Finset.sum_subset (Finset.range_subset_range.mpr (show i.val + 1 ≤ N from i.isLt))]
  · refine Finset.sum_congr rfl fun j hj => ?_
    rw [if_pos (by have := Finset.mem_range.mp hj; omega)]
  · intro j _ hj
    rw [if_neg (fun h => hj (Finset.mem_range.mpr (by omega))), zero_mul]

/-- The running mean of the column `x` after `k` rows, started at `m0`. -/
def mu (η : ℝ) (x : ℕ → ℝ) (m0 : ℝ) (k : ℕ) : ℝ := lin (1 - η) η x m0 k

/-- One row's step of the running mean, as the reference writes it. -/
theorem mu_succ (η : ℝ) (x : ℕ → ℝ) (m0 : ℝ) (k : ℕ) :
    mu η x m0 (k + 1) = mu η x m0 k + η * (x k - mu η x m0 k) := by
  simp only [mu, lin]; ring

/-- Row `k` of the column less the running mean that already counts it. -/
def diff (η : ℝ) (x : ℕ → ℝ) (m0 : ℝ) (k : ℕ) : ℝ := x k - mu η x m0 (k + 1)

/-- The running variance of the column after `k` rows, started at `s0`. -/
def var (η θ : ℝ) (x : ℕ → ℝ) (m0 s0 : ℝ) (k : ℕ) : ℝ :=
  lin (1 - θ) θ (fun t => diff η x m0 t * diff η x m0 t) s0 k

/-- One row's step of the running variance. -/
theorem var_succ (η θ : ℝ) (x : ℕ → ℝ) (m0 s0 : ℝ) (k : ℕ) :
    var η θ x m0 s0 (k + 1)
      = var η θ x m0 s0 k * (1 - θ) + θ * (diff η x m0 k * diff η x m0 k) := rfl

/-- A variance that starts positive stays positive. -/
theorem var_pos (η θ : ℝ) (x : ℕ → ℝ) (m0 s0 : ℝ) (h0 : 0 < s0) (hθ : 0 ≤ θ) (hθ1 : θ < 1) :
    ∀ k, 0 < var η θ x m0 s0 k
  | 0 => h0
  | k + 1 => by
    rw [var_succ]
    have h1 := mul_pos (var_pos η θ x m0 s0 h0 hθ hθ1 k) (show 0 < 1 - θ by linarith)
    have h2 := mul_nonneg hθ (mul_self_nonneg (diff η x m0 k))
    linarith

/-- The column's mean over its `N` rows. -/
def mean (N : ℕ) (x : ℕ → ℝ) : ℝ := (∑ k : Fin N, x k.val) * (1 / (N : ℝ))

/-- The sum of the column's squared distances from its mean. -/
def dev2 (N : ℕ) (x : ℕ → ℝ) : ℝ := ∑ k : Fin N, (x k.val - mean N x) * (x k.val - mean N x)

/-- The column's unbiased standard deviation. -/
def std (N : ℕ) (x : ℕ → ℝ) : ℝ := Real.sqrt (dev2 N x * (1 / ((N : ℝ) - 1)))

/-- The squared distances add up to the sum of squares less the sum times the mean. -/
theorem dev2_eq (N : ℕ) (hN : 0 < N) (x : ℕ → ℝ) :
    dev2 N x = (∑ k : Fin N, x k.val * x k.val) - (∑ k : Fin N, x k.val) * mean N x := by
  have hN' : (N : ℝ) ≠ 0 := by positivity
  have e : ∀ k : Fin N, (x k.val - mean N x) * (x k.val - mean N x)
      = x k.val * x k.val - 2 * mean N x * x k.val + mean N x * mean N x := fun k => by ring
  unfold dev2
  simp only [e, Finset.sum_add_distrib, Finset.sum_sub_distrib, ← Finset.mul_sum, Finset.sum_const,
    Finset.card_univ, Fintype.card_fin, nsmul_eq_mul]
  have hm : (N : ℝ) * mean N x = ∑ k : Fin N, x k.val := by unfold mean; field_simp
  rw [← hm]; ring

/-- A sum of squared deviations is not negative. -/
theorem dev2_nonneg (N : ℕ) (x : ℕ → ℝ) : 0 ≤ dev2 N x :=
  Finset.sum_nonneg fun _ _ => mul_self_nonneg _

/-- A column with two different entries has a positive deviation. -/
theorem std_pos (N : ℕ) (hN : 1 < N) (x : ℕ → ℝ) (t : ℕ) (ht : t < N) (hx : x t ≠ x 0) : 0 < std N x := by
  have h1 : 0 < (N : ℝ) - 1 := by
    have : (1 : ℝ) < N := by exact_mod_cast hN
    linarith
  refine Real.sqrt_pos.mpr (mul_pos ?_ (by positivity))
  refine lt_of_le_of_ne (dev2_nonneg N x) fun h => hx ?_
  have hz := (Finset.sum_eq_zero_iff_of_nonneg (fun k _ => mul_self_nonneg (x k.val - mean N x))).mp h.symm
  have a := mul_self_eq_zero.mp (hz ⟨t, ht⟩ (Finset.mem_univ _))
  have b := mul_self_eq_zero.mp (hz ⟨0, by omega⟩ (Finset.mem_univ _))
  simp only at a b
  linarith

/-- The normalised entry of row `k`. -/
def norm (η θ : ℝ) (x : ℕ → ℝ) (m0 s0 : ℝ) (k : ℕ) : ℝ :=
  diff η x m0 k * (1 / Real.sqrt (var η θ x m0 s0 (k + 1)))

/-- A sum over the first `n + N` rows is the sum over the first `n` and the block of `N` after them. -/
theorem sum_block (x : ℕ → ℝ) (n N : ℕ) :
    (∑ k ∈ Finset.range (n + N), x k) = (∑ k ∈ Finset.range n, x k) + ∑ j : Fin N, x (n + j.val) := by
  rw [Finset.sum_range_add, Fin.sum_univ_eq_sum_range (fun j => x (n + j)) N]

/-- The learning rate of the running mean: the 32-bit word nearest to 0.01, as a real number. -/
def eta : ℝ := 10737418 * (2 : ℝ) ^ (-30 : ℤ)

/-- The learning rate of the running variance: the 32-bit word nearest to 0.02. -/
def theta : ℝ := 10737418 * (2 : ℝ) ^ (-29 : ℤ)

/-- The variance's rate is not negative. -/
theorem theta_nonneg : 0 ≤ theta := by unfold theta; positivity
/-- The variance's rate is less than one. -/
theorem theta_lt_one : theta < 1 := by unfold theta; norm_num

open Idealize.ShloMosaic in
/-- The word the programs print for 0.01 denotes `eta`. -/
theorem ofBits_eta : Ideal.ofBits .f32 0x3C23D70A#32 = ((eta : ℝ) : EReal) := by
  simp [Ideal.ofBits, Ideal.ieee, eta]

open Idealize.ShloMosaic in
/-- The word the programs print for 0.02 denotes `theta`. -/
theorem ofBits_theta : Ideal.ofBits .f32 0x3CA3D70A#32 = ((theta : ℝ) : EReal) := by
  simp [Ideal.ofBits, Ideal.ieee, theta]

open Idealize.ShloMosaic in
/-- The word of the row count. -/
theorem ofBits_rows : Ideal.ofBits .f32 0x47000000#32 = ((32768 : ℝ) : EReal) := by
  simp [Ideal.ofBits, Ideal.ieee]
  rw [← EReal.coe_mul]; norm_num

open Idealize.ShloMosaic in
/-- The word of one. -/
theorem ofBits_one : Ideal.ofBits .f32 0x3F800000#32 = ((1 : ℝ) : EReal) := by
  simp [Ideal.ofBits, Ideal.ieee]
  rw [← EReal.coe_mul]; norm_num

open Idealize.ShloMosaic in
/-- The word of positive infinity. -/
theorem ofBits_top : Ideal.ofBits .f32 0x7F800000#32 = ⊤ := by
  simp [Ideal.ofBits, Ideal.ieee]

/-- A finite sum of real numbers, read in the extended reals. -/
theorem coe_sum {ι : Type} (s : Finset ι) (f : ι → ℝ) :
    (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

end Cert.Spec

end
-- ==== Proof.Val.Pre.lean ====
module

public import proofs.«01_k».proof.Pre_finite_varied
public import proofs.«01_k».proof.Proof.Gen.Pre_finite_varied
public import proofs.«01_k».proof.Proof.Val.Spec
public import Idealize.ShloMosaic.Lib.ReduceAll
public import Idealize.ShloMosaic.Lib.Pointwise

@[expose] public section

noncomputable section

/-! What the precondition says of the argument: every entry is a real number, and in every column
    some entry differs from the first. -/

namespace Cert.Spec

open Idealize.ShloMosaic
open Cert.Pre_finite_varied

/-- Column `j` of the argument as a sequence of real numbers, zero past the last row. -/
def col (X : (⟨2, ![32768, 1024]⟩ : Shape).Idx → EReal) (j : Fin 1024) (k : ℕ) : ℝ :=
  if h : k < 32768 then (X (ix2 ⟨k, h⟩ j)).toReal else 0

/-- A left fold by `or` that starts at 0 and meets only 0s comes out 0. -/
theorem foldl_ori_zero {ι : Type} (f : ι → BitVec 1) :
    ∀ (l : List ι) (init : BitVec 1), init = 0#1 → (∀ n ∈ l, f n = 0#1) →
      l.foldl (fun r n => IntOp.ori r (f n)) init = 0#1
  | [], _, h, _ => h
  | a :: l, init, h, hf =>
    foldl_ori_zero f l _ (by show IntOp.ori init (f a) = 0#1; rw [h, hf a (List.mem_cons_self ..)]; rfl)
      fun n hn => hf n (List.mem_cons_of_mem _ hn)

/-- A comparison of extended reals is 1 exactly when it holds: less than. -/
theorem cmp_olt {x y : EReal} (h : Ideal.cmp .olt x y = 1#1) : x < y := by
  by_contra hn
  simp [Ideal.cmp, hn] at h

/-- A comparison of extended reals that is not 1 does not hold: not equal. -/
theorem cmp_une {x y : EReal} (h : x = y) : Ideal.cmp .une x y = 0#1 := by
  simp [Ideal.cmp, h]

instance : Subsingleton (S_ : Shape).Idx := ⟨fun a b => funext fun i => i.elim0⟩

section
variable [Cert.Pre_finite_varied.Facts]
open Facts

variable {X : (⟨2, ![32768, 1024]⟩ : Shape).Idx → EReal}

/-- Under the precondition every entry of the argument is the real number of its column's sequence. -/
theorem real_of_pre (h : Cert.Pre_finite_varied.fn (F := Ideal) X = fun _ => 1#1)
    (k : Fin 32768) (j : Fin 1024) : X (ix2 k j) = ((col X j k.val : ℝ) : EReal) := by
  have h0 := congrFun h (fun i => i.elim0)
  have h1 := (IntOp.andi_eq_one.1 h0).1
  have h2 := Host.reduce_andi_all _ _ _ _ _ h1 (ix2 k j)
  have h3 : max (X (ix2 k j)) (-(X (ix2 k j))) < Ideal.ofBits .f32 0x7F800000#32 := cmp_olt h2
  rw [ofBits_top, max_lt_iff] at h3
  unfold col
  rw [dif_pos k.isLt, EReal.coe_toReal h3.1.ne]
  intro hb
  rw [hb] at h3
  simp at h3

set_option maxRecDepth 16384 in
/-- Under the precondition every column has an entry different from its first. -/
theorem varied_of_pre (h : Cert.Pre_finite_varied.fn (F := Ideal) X = fun _ => 1#1) (j : Fin 1024) :
    ∃ t, t < 32768 ∧ col X j t ≠ col X j 0 := by
  by_contra hn
  push Not at hn
  have h0 := congrFun h (fun i => i.elim0)
  have h1 := (IntOp.andi_eq_one.1 h0).2
  have h2 := Host.reduce_andi_all _ _ _ _ _ h1 (ix1 j)
  have h3 : ∀ (a : Fin 32768) (b : Fin 1024), reducesTo_S32768x1024_S1024_d0.drop (ix2 a b) = ix1 j →
      Ideal.cmp .une (X (ix2 a b)) (X (ix2 ⟨0, by decide⟩ b)) = 0#1 := by
    intro a b hi
    refine cmp_une ?_
    have hj : b = j := by
      have e := congrFun hi 0
      have e' : ((reducesTo_S32768x1024_S1024_d0.drop (ix2 a b) 0 : Fin _) : ℕ) = b.val :=
        Shape.ReducesTo.drop_apply_val reducesTo_S32768x1024_S1024_d0 (ix2 a b) 0
      rw [e] at e'
      exact Fin.ext e'.symm
    subst hj
    rw [real_of_pre h, real_of_pre h]
    exact congrArg _ (hn _ a.isLt)
  dsimp only at h2
  rw [Host.reduce_eq_foldl] at h2
  refine absurd (h2.symm.trans (foldl_ori_zero _ _ _ rfl ?_)) (by decide)
  · intro i hi
    rw [List.mem_filter] at hi
    have hi2 : reducesTo_S32768x1024_S1024_d0.drop i = ix1 j := by simpa using hi.2
    obtain ⟨a, b, rfl⟩ : ∃ (a : Fin 32768) (b : Fin 1024), i = ix2 a b := ⟨i 0, i 1, eq_ix2 i⟩
    refine Eq.trans ?_ (h3 a b hi2)
    show Ideal.cmp .une (X (ix2 a b)) (X _) = _
    refine congrArg (fun z => Ideal.cmp .une (X (ix2 a b)) (X z)) ?_
    refine funext fun d => ?_
    match d with
    | ⟨0, _⟩ => rfl
    | ⟨1, _⟩ => exact Fin.ext (by simp)
end

end Cert.Spec

end
-- ==== Proof.Val.Result.lean ====
module

public import proofs.«01_k».proof.Proof.Val.Pre

@[expose] public section

noncomputable section

/-! The two results as functions of the argument's columns. -/

namespace Cert.Spec

open Idealize.ShloMosaic

/-- The column's starting mean. -/
def mean0 (x : ℕ → ℝ) : ℝ := mean 32768 x
/-- The column's starting deviation. -/
def std0 (x : ℕ → ℝ) : ℝ := std 32768 x
/-- The running mean of a column after `k` rows. -/
def muAt (x : ℕ → ℝ) (k : ℕ) : ℝ := mu eta x (mean0 x) k
/-- The running variance of a column after `k` rows. -/
def varAt (x : ℕ → ℝ) (k : ℕ) : ℝ := var eta theta x (mean0 x) (std0 x) k
/-- The normalised entry of a column at row `k`. -/
def normAt (x : ℕ → ℝ) (k : ℕ) : ℝ := norm eta theta x (mean0 x) (std0 x) k

/-- The first result: every entry normalised. -/
def resNorm (x : Fin 1024 → ℕ → ℝ) : (⟨2, ![32768, 1024]⟩ : Shape).Idx → EReal :=
  fun i => ((normAt (x (i 1)) (i 0).val : ℝ) : EReal)

/-- The second result: in the left half the running means, in the right half the running variances. -/
def resInfo (x : Fin 1024 → ℕ → ℝ) : (⟨2, ![32768, 2048]⟩ : Shape).Idx → EReal :=
  fun i => if h : (i 1).val < 1024 then ((muAt (x ⟨(i 1).val, h⟩) ((i 0).val + 1) : ℝ) : EReal)
    else ((varAt (x ⟨(i 1).val - 1024, by have : (i 1).val < 2048 := (i 1).isLt; omega⟩) ((i 0).val + 1) : ℝ) : EReal)

end Cert.Spec

end
-- ==== Proof.Val.Tables.lean ====
module

public import proofs.«01_k».proof.Proof.Gen.KernelIdeal.Launch
public import proofs.«01_k».proof.Proof.Val.Result
public import Idealize.ShloMosaic.Lib.StableHlo.RunRead
public import Idealize.ShloMosaic.Lib.DynamicIndex

@[expose] public section

set_option maxRecDepth 16384

noncomputable section

/-! The four tables the kernel's host code makes, at the extended reals: the weights of a block's rows
    and of the state before the block. -/

namespace Cert.KernelIdeal.Tables

open Idealize.ShloMosaic Idealize.ShloMosaic.TcCoe Idealize.ShloMosaic.StableHlo
open Cert.KernelIdeal Cert.KernelIdeal.Facts Cert.KernelIdeal.Gen

/-- The row number less the column number. -/
abbrev gap : IVec S256x256 32 :=
  subi (broadcastInDim S256x256 ![0, 1] bcast_S256x1_S256x256_0_1 (broadcastInDim S256x1 ![0] bcast_S256_S256x1_0 (iotaInDim S256 32 0)))
    (broadcastInDim S256x256 ![0, 1] bcast_S1x256_S256x256_0_1 (broadcastInDim S1x256 ![1] bcast_S256_S1x256_1 (iotaInDim S256 32 0)))

/-- The table of a block's own rows at the rate whose word is `w`. -/
abbrev rows (w : BitVec 32) : FVec Ideal S256x256 .f32 :=
  select (cmpi .sge gap (broadcastInDim S256x256 ![] bcast_S_S256x256 (constantI S_ 32 0#32)))
    (mulf (broadcastInDim S256x256 ![] bcast_S_S256x256 (constant S_ .f32 w))
      (Host.powf (broadcastInDim S256x256 ![] bcast_S_S256x256 (subf (constant S_ .f32 0x3F800000#32) (constant S_ .f32 w)))
        (sitofp .f32 (maxsi gap (broadcastInDim S256x256 ![] bcast_S_S256x256 (constantI S_ 32 0#32))))))
    (broadcastInDim S256x256 ![] bcast_S_S256x256 (constant S_ .f32 0x00000000#32))

/-- The table of the state before the block at the rate whose word is `w`. -/
abbrev carry (w : BitVec 32) : FVec Ideal S256x1 .f32 :=
  broadcastInDim S256x1 ![0] bcast_S256_S256x1_0
    (Host.powf (broadcastInDim S256 ![] bcast_S_S256 (subf (constant S_ .f32 0x3F800000#32) (constant S_ .f32 w)))
      (addf (sitofp .f32 (iotaInDim S256 32 0)) (broadcastInDim S256 ![] bcast_S_S256 (constant S_ .f32 0x3F800000#32))))

variable (V : Valuation τ sig (Elt Ideal))

/-- The buffers after the five stretches of host code between the two calls. -/
abbrev host (V : Valuation τ sig (Elt Ideal)) : Valuation τ sig (Elt Ideal) :=
  after hostOps1_4 (after hostOps1_3 (after hostOps1_2 (after hostOps1_1 (after hostOps1 V))))

/-- The host code leaves the running mean's table of rows. -/
theorem host_v18 : host V (Proc.devRef .tc main_v18) = rows 0x3C23D70A#32 := by
  unfold host
  after_reads_simp
  rfl

/-- The host code leaves the running variance's table of rows. -/
theorem host_v25 : host V (Proc.devRef .tc main_v25) = rows 0x3CA3D70A#32 := by
  unfold host
  after_reads_simp
  rfl

/-- The host code leaves the running mean's table of the state before. -/
theorem host_v36 : host V (Proc.devRef .tc main_v36) = carry 0x3C23D70A#32 := by
  unfold host
  after_reads_simp

/-- The host code leaves the running variance's table of the state before. -/
theorem host_v37 : host V (Proc.devRef .tc main_v37) = carry 0x3CA3D70A#32 := by
  unfold host
  after_reads_simp

/-- The host code leaves the statistics as they were. -/
theorem host_v0 : host V (Proc.devRef .tc main_v0) = V (Proc.devRef .tc main_v0) := by
  unfold host
  after_reads_simp

/-- The gap of two small numbers, read as a signed word. -/
theorem gap_toInt (i j : Fin 256) : (BitVec.ofNat 32 i.val - BitVec.ofNat 32 j.val).toInt = (i.val : Int) - j.val := by
  rw [BitVec.toInt_sub, toInt_ofNat_of_lt (by omega), toInt_ofNat_of_lt (by omega)]
  rw [Int.bmod_eq_of_le] <;> omega

/-- A table of rows at an index: the rate times the decay to the power of the gap on and below the diagonal. -/
theorem rows_apply (w : BitVec 32) (η : ℝ) (hw : Ideal.ofBits .f32 w = ((η : ℝ) : EReal)) (i j : Fin 256) :
    rows w (ix2 i j) = (((if j.val ≤ i.val then η * (1 - η) ^ (i.val - j.val) else 0 : ℝ)) : EReal) := by
  have e : rows w (ix2 i j) = Scalar.select (IntOp.cmpi .sge (BitVec.ofNat 32 i.val - BitVec.ofNat 32 j.val) 0#32)
      (Ideal.ofBits .f32 w * Ideal.pow (Ideal.ofBits .f32 0x3F800000#32 - Ideal.ofBits .f32 w)
        (((IntOp.maxsi (BitVec.ofNat 32 i.val - BitVec.ofNat 32 j.val) 0#32).toInt : ℝ) : EReal))
      (Ideal.ofBits .f32 0x00000000#32) := rfl
  rw [e, hw, Cert.Spec.ofBits_one, ← EReal.coe_sub, Ideal.ofBits_zero_f32]
  have hg := gap_toInt i j
  by_cases h : j.val ≤ i.val
  · have h1 : IntOp.cmpi .sge (BitVec.ofNat 32 i.val - BitVec.ofNat 32 j.val) 0#32 = 1#1 := by
      simp only [IntOp.cmpi, BitVec.sle, hg, BitVec.toInt_zero]
      rw [decide_eq_true (by omega)]; rfl
    have h2 : (IntOp.maxsi (BitVec.ofNat 32 i.val - BitVec.ofNat 32 j.val) 0#32).toInt = ((i.val - j.val : ℕ) : Int) := by
      unfold IntOp.maxsi
      split
      · rw [hg]; omega
      · next hn =>
        simp only [BitVec.slt, hg, BitVec.toInt_zero, decide_eq_true_eq, not_lt] at hn
        rw [BitVec.toInt_zero]; omega
    rw [h1, h2, if_pos h]
    show ((η : ℝ) : EReal) * Ideal.pow _ _ = _
    rw [Ideal.pow_coe_coe, ← EReal.coe_mul]
    congr 2
    rw [Int.cast_natCast]
    exact Real.rpow_natCast _ _
  · have h1 : IntOp.cmpi .sge (BitVec.ofNat 32 i.val - BitVec.ofNat 32 j.val) 0#32 = 0#1 := by
      simp only [IntOp.cmpi, BitVec.sle, hg, BitVec.toInt_zero]
      rw [decide_eq_false (by omega)]; rfl
    rw [h1, if_neg h]; rfl

/-- A table of the state before at a row: the decay to the power of the row's number and one. -/
theorem carry_apply (w : BitVec 32) (η : ℝ) (hw : Ideal.ofBits .f32 w = ((η : ℝ) : EReal)) (i : Fin 256) :
    carry w (ix2 i 0) = (((1 - η) ^ (i.val + 1) : ℝ) : EReal) := by
  have e : carry w (ix2 i 0) = Ideal.pow (Ideal.ofBits .f32 0x3F800000#32 - Ideal.ofBits .f32 w)
      ((((BitVec.ofNat 32 i.val).toInt : ℝ) : EReal) + Ideal.ofBits .f32 0x3F800000#32) := rfl
  rw [e, hw, Cert.Spec.ofBits_one, ← EReal.coe_sub, ← EReal.coe_add, Ideal.pow_coe_coe,
    toInt_ofNat_of_lt (by omega)]
  congr 1
  rw [Int.cast_natCast, ← Nat.cast_succ]
  exact Real.rpow_natCast _ _

end Cert.KernelIdeal.Tables

end
-- ==== Proof.Val.Block.lean ====
module

public import proofs.«01_k».proof.Proof.Val.Tables
public import proofs.«01_k».proof.Proof.R1Frame
public import Idealize.ShloMosaic.Lib.MatmulPlain

@[expose] public section

set_option maxRecDepth 16384

noncomputable section

/-! One block of 256 rows of the recurrence, as the kernel computes it, at the extended reals. -/

namespace Cert.KernelIdeal.Block

open Idealize.ShloMosaic Idealize.ShloMosaic.TcCoe
open Cert.KernelIdeal Cert.KernelIdeal.Facts Cert.KernelIdeal.Gen

/-- A block's new states: the table of its rows times its terms, plus the table of the state before
    times that state. -/
abbrev step (A : FVec Ideal S256x256 .f32) (P : FVec Ideal S256x1 .f32) (s : FVec Ideal S1x512 .f32) (B : FVec Ideal S256x512 .f32) :
    FVec Ideal S256x512 .f32 :=
  addf (matmul dot_S256x256_S256x512_S256x512_1_0_0_1_n_n none A B (constant S256x512 .f32 0x00000000#32))
    (mulf (broadcastTo S256x512 P broadcasts_S256x1_S256x512) (broadcastTo S256x512 s broadcasts_S1x512_S256x512))

/-- A block's new state read at a row and a column. -/
theorem step_apply (A : FVec Ideal S256x256 .f32) (P : FVec Ideal S256x1 .f32) (s : FVec Ideal S1x512 .f32)
    (B : FVec Ideal S256x512 .f32) (i : Fin 256) (j : Fin 512) :
    step A P s B (ix2 i j) = (∑ k : Fin 256, A (ix2 i k) * B (ix2 k j)) + P (ix2 i 0) * s (ix2 0 j) := by
  have e1 : matmul dot_S256x256_S256x512_S256x512_1_0_0_1_n_n none A B (constant S256x512 .f32 0x00000000#32) (ix2 i j)
      = (0 : EReal) + ∑ k : Fin 256, A (ix2 i k) * B (ix2 k j) := by
    rw [← Ideal.ofBits_zero_f32]
    exact Ideal.matmul_plain_apply none A B (constant S256x512 .f32 0x00000000#32) i j
  have e2 : broadcastTo S256x512 P broadcasts_S256x1_S256x512 (ix2 i j) = P (ix2 i 0) := by pointwise
  have e3 : broadcastTo S256x512 s broadcasts_S1x512_S256x512 (ix2 i j) = s (ix2 0 j) := by pointwise
  have e : step A P s B (ix2 i j)
      = matmul dot_S256x256_S256x512_S256x512_1_0_0_1_n_n none A B (constant S256x512 .f32 0x00000000#32) (ix2 i j)
        + broadcastTo S256x512 P broadcasts_S256x1_S256x512 (ix2 i j) * broadcastTo S256x512 s broadcasts_S1x512_S256x512 (ix2 i j) := rfl
  rw [e, e1, e2, e3, zero_add]

/-- With the two tables at the rate `η` and the state after `n` terms, a block's row `i` is the state
    after `n + i + 1` terms. -/
theorem step_lin (w : BitVec 32) (η : ℝ) (hw : Ideal.ofBits .f32 w = ((η : ℝ) : EReal)) (u : ℕ → ℝ) (s0 : ℝ) (n : ℕ)
    (s : FVec Ideal S1x512 .f32) (B : FVec Ideal S256x512 .f32) (j : Fin 512)
    (hs : s (ix2 0 j) = ((Cert.Spec.lin (1 - η) η u s0 n : ℝ) : EReal))
    (hB : ∀ k : Fin 256, B (ix2 k j) = ((u (n + k.val) : ℝ) : EReal)) (i : Fin 256) :
    step (Tables.rows w) (Tables.carry w) s B (ix2 i j) = ((Cert.Spec.lin (1 - η) η u s0 (n + (i.val + 1)) : ℝ) : EReal) := by
  rw [step_apply, Tables.carry_apply w η hw, hs, ← Cert.Spec.lin_block_fin (1 - η) η u s0 n 256 i, EReal.coe_add, EReal.coe_mul,
    ← Cert.Spec.coe_sum]
  refine congrArg (· + _) (Finset.sum_congr rfl fun k _ => ?_)
  rw [Tables.rows_apply w η hw, hB, ← EReal.coe_mul]

/-- What a column's block of 256 rows starts from: the two states after `n` rows and the rows from `n`. -/
structure At (x : ℕ → ℝ) (n : ℕ) (sm sv : FVec Ideal S1x512 .f32) (B : FVec Ideal S256x512 .f32) (j : Fin 512) : Prop where
  mu : sm (ix2 0 j) = ((Cert.Spec.muAt x n : ℝ) : EReal)
  var : sv (ix2 0 j) = ((Cert.Spec.varAt x n : ℝ) : EReal)
  rows : ∀ k : Fin 256, B (ix2 k j) = ((x (n + k.val) : ℝ) : EReal)

/-- A block's running means. -/
abbrev mus (sm : FVec Ideal S1x512 .f32) (B : FVec Ideal S256x512 .f32) : FVec Ideal S256x512 .f32 :=
  step (Tables.rows 0x3C23D70A#32) (Tables.carry 0x3C23D70A#32) sm B
/-- A block's differences from its running means. -/
abbrev diffs (sm : FVec Ideal S1x512 .f32) (B : FVec Ideal S256x512 .f32) : FVec Ideal S256x512 .f32 :=
  subf B (mus sm B)
/-- A block's running variances. -/
abbrev vars (sm sv : FVec Ideal S1x512 .f32) (B : FVec Ideal S256x512 .f32) : FVec Ideal S256x512 .f32 :=
  step (Tables.rows 0x3CA3D70A#32) (Tables.carry 0x3CA3D70A#32) sv (mulf (diffs sm B) (diffs sm B))
/-- A block's normalized rows. -/
abbrev norms (sm sv : FVec Ideal S1x512 .f32) (B : FVec Ideal S256x512 .f32) : FVec Ideal S256x512 .f32 :=
  mulf (diffs sm B) (rsqrt (vars sm sv B))

variable {x : ℕ → ℝ} {n : ℕ} {sm sv : FVec Ideal S1x512 .f32} {B : FVec Ideal S256x512 .f32} {j : Fin 512}

/-- Row `i` of a block's running means is the running mean after it. -/
theorem mus_apply (h : At x n sm sv B j) (i : Fin 256) : mus sm B (ix2 i j) = ((Cert.Spec.muAt x (n + i.val + 1) : ℝ) : EReal) :=
  step_lin _ Cert.Spec.eta Cert.Spec.ofBits_eta x _ n sm B j h.mu h.rows i

/-- Row `i` of a block's differences is that of the recurrence. -/
theorem diffs_apply (h : At x n sm sv B j) (i : Fin 256) :
    diffs sm B (ix2 i j) = ((Cert.Spec.diff Cert.Spec.eta x (Cert.Spec.mean0 x) (n + i.val) : ℝ) : EReal) := by
  have e : diffs sm B (ix2 i j) = B (ix2 i j) - mus sm B (ix2 i j) := rfl
  rw [e, mus_apply h, h.rows, ← EReal.coe_sub]
  rfl

/-- Row `i` of a block's running variances is the running variance after it. -/
theorem vars_apply (h : At x n sm sv B j) (i : Fin 256) : vars sm sv B (ix2 i j) = ((Cert.Spec.varAt x (n + i.val + 1) : ℝ) : EReal) := by
  refine step_lin _ Cert.Spec.theta Cert.Spec.ofBits_theta (fun t => Cert.Spec.diff Cert.Spec.eta x (Cert.Spec.mean0 x) t * Cert.Spec.diff Cert.Spec.eta x (Cert.Spec.mean0 x) t)
    _ n sv _ j h.var (fun k => ?_) i
  have e : mulf (diffs sm B) (diffs sm B) (ix2 k j) = diffs sm B (ix2 k j) * diffs sm B (ix2 k j) := rfl
  rw [e, diffs_apply h, ← EReal.coe_mul]

/-- Row `i` of a block's normalized rows is that of the recurrence, when the column is not constant. -/
theorem norms_apply (h : At x n sm sv B j) (hs : 0 < Cert.Spec.std0 x) (i : Fin 256) :
    norms sm sv B (ix2 i j) = ((Cert.Spec.normAt x (n + i.val) : ℝ) : EReal) := by
  have e : norms sm sv B (ix2 i j) = diffs sm B (ix2 i j) * Ideal.rsqrt (vars sm sv B (ix2 i j)) := rfl
  have hp : 0 < Cert.Spec.varAt x (n + i.val + 1) :=
    Cert.Spec.var_pos _ _ _ _ _ hs Cert.Spec.theta_nonneg Cert.Spec.theta_lt_one _
  rw [e, diffs_apply h, vars_apply h, Ideal.rsqrt_coe, if_neg (not_lt.2 hp.le), if_neg hp.ne', ← EReal.coe_mul, ← one_div]
  rfl

/-- The last row of a block's states, kept for the next block. -/
abbrev last (v : FVec Ideal S256x512 .f32) : FVec Ideal S1x512 .f32 :=
  extractStridedSlice S1x512 ![255, 0] v slices_S256x512_o255_0_S1x512

/-- The last row read at a column. -/
theorem last_apply (v : FVec Ideal S256x512 .f32) (j : Fin 512) : last v (ix2 0 j) = v (ix2 255 j) := by pointwise

/-- The block after: it starts from the last row of this one. -/
theorem At.next (h : At x n sm sv B j) {B' : FVec Ideal S256x512 .f32} (hB : ∀ k : Fin 256, B' (ix2 k j) = ((x (n + 256 + k.val) : ℝ) : EReal)) :
    At x (n + 256) (last (mus sm B)) (last (vars sm sv B)) B' j where
  mu := by rw [last_apply, mus_apply h]; rfl
  var := by rw [last_apply, vars_apply h]; rfl
  rows := hB

section Payloads

variable (sm sv : FVec Ideal S1x512 .f32) (B B' : FVec Ideal S256x512 .f32)

/-- The running mean's table of a block's rows. -/
abbrev L₁ : FVec Ideal S256x256 .f32 := Tables.rows 0x3C23D70A#32
/-- The running variance's table of a block's rows. -/
abbrev L₂ : FVec Ideal S256x256 .f32 := Tables.rows 0x3CA3D70A#32
/-- The running mean's table of the state before. -/
abbrev P₁ : FVec Ideal S256x1 .f32 := Tables.carry 0x3C23D70A#32
/-- The running variance's table of the state before. -/
abbrev P₂ : FVec Ideal S256x1 .f32 := Tables.carry 0x3CA3D70A#32

/-- The first block's running means. -/
theorem pay7_eq : k1_pay7 sm L₁ P₁ B = mus sm B := by
  unfold k1_pay7 k1_pay3 k1_pay5; simp only [shapeCast_self]
/-- The first block's running variances. -/
theorem pay9_eq : k1_pay9 sm sv L₁ L₂ P₁ P₂ B = vars sm sv B := by
  unfold k1_pay9 k1_pay8 k1_pay4 k1_pay6; simp only [shapeCast_self, pay7_eq]
/-- The first block's normalized rows. -/
theorem pay10_eq : k1_pay10 sm sv L₁ L₂ P₁ P₂ B = norms sm sv B := by
  unfold k1_pay10 k1_pay8; simp only [pay7_eq, pay9_eq]
/-- The second block's running means. -/
theorem pay13_eq : k1_pay13 (k1_pay3 L₁) (k1_pay5 P₁) (k1_pay7 sm L₁ P₁ B) B' = mus (last (mus sm B)) B' := by
  unfold k1_pay13 k1_pay3 k1_pay5; simp only [shapeCast_self, pay7_eq]
/-- The second block's running variances. -/
theorem pay15_eq : k1_pay15 (k1_pay3 L₁) (k1_pay4 L₂) (k1_pay5 P₁) (k1_pay6 P₂) (k1_pay7 sm L₁ P₁ B) (k1_pay9 sm sv L₁ L₂ P₁ P₂ B) B'
    = vars (last (mus sm B)) (last (vars sm sv B)) B' := by
  unfold k1_pay15 k1_pay14; simp only [pay13_eq, pay9_eq]; unfold k1_pay4 k1_pay6; simp only [shapeCast_self]
/-- The second block's normalized rows. -/
theorem pay16_eq : k1_pay16 (k1_pay3 L₁) (k1_pay4 L₂) (k1_pay5 P₁) (k1_pay6 P₂) (k1_pay7 sm L₁ P₁ B) (k1_pay9 sm sv L₁ L₂ P₁ P₂ B) B'
    = norms (last (mus sm B)) (last (vars sm sv B)) B' := by
  unfold k1_pay16 k1_pay14; simp only [pay13_eq, pay15_eq]
/-- The running mean kept for the next step. -/
theorem pay19_eq : k1_pay19 (k1_pay3 L₁) (k1_pay5 P₁) (k1_pay7 sm L₁ P₁ B) B' = last (mus (last (mus sm B)) B') := by
  unfold k1_pay19; simp only [pay13_eq, shapeCast_self]
/-- The running variance kept for the next step. -/
theorem pay20_eq : k1_pay20 (k1_pay3 L₁) (k1_pay4 L₂) (k1_pay5 P₁) (k1_pay6 P₂) (k1_pay7 sm L₁ P₁ B) (k1_pay9 sm sv L₁ L₂ P₁ P₂ B) B'
    = last (vars (last (mus sm B)) (last (vars sm sv B)) B') := by
  unfold k1_pay20; simp only [pay15_eq, shapeCast_self]

/-- A block of states with a unit axis in the middle, read at a row and a column. -/
theorem mid_apply (v : FVec Ideal S256x512 .f32) (i : Fin 256) (j : Fin 512) :
    shapeCast S256x1x512 v shapeCasts_S256x512_S256x1x512 (ix3 i 0 j) = v (ix2 i j) := by pointwise

end Payloads

end Cert.KernelIdeal.Block
-- ==== Proof.Val.ScanRun.lean ====
module

public import proofs.«01_k».proof.Proof.Val.Block
public import Idealize.ShloMosaic.Lib.WritesUnit
public import Idealize.ShloMosaic.Lib.WholeRead

@[expose] public section

set_option maxRecDepth 16384

noncomputable section

/-! What one step of the scan call leaves: two blocks of 256 rows, the second from where the first ends. -/

namespace Cert.KernelIdeal.Scan

open Idealize.ShloMosaic Idealize.ShloMosaic.TcCoe Idealize.ShloMosaic.Tactic
open Cert.KernelIdeal Cert.KernelIdeal.Facts Cert.KernelIdeal.Gen Cert.KernelIdeal.R1 Cert.KernelIdeal.Block

/-- The first 256 rows of a step's block. -/
def top (X : Vec Ideal S512x512 .f32) : FVec Ideal S256x512 .f32 := fun y => X (ix2 ⟨(y 0).val, lt_trans (y 0).isLt (by decide)⟩ (y 1))
/-- The last 256 rows of a step's block. -/
def bot (X : Vec Ideal S512x512 .f32) : FVec Ideal S256x512 .f32 := fun y => X (ix2 ⟨256 + (y 0).val, Nat.add_lt_add_left (y 0).isLt 256⟩ (y 1))
/-- A row of the statistics. -/
def row (r : Fin 2) (X : Vec Ideal S2x512 .f32) : FVec Ideal S1x512 .f32 := fun y => X (ix2 r (y 1))

/-- The offsets of a whole load are zero on both axes. -/
theorem zeros : (![0, 0] : Fin 2 → ℕ) = fun _ => 0 := funext fun a => by fin_cases a <;> rfl

section Loads

/-- A load of the first 256 rows. -/
theorem load_top {a : Memref sig .tc .vmem S512x512 .f32} (h : a.IsWhole) (X : Vec Ideal S512x512 .f32) :
    View.readAt (Elt Ideal) a.view (Rect.unit (s := S512x512) ![0, 0] ![256, 512] inb_S512x512_S256x512_0_0).toLoadRect (h.unread X) = top X :=
  funext fun y => (h.readAt_unread X _ _).trans (congrArg X (funext fun b => Fin.ext (by fin_cases b <;> simp [Rect.toLoadRect, LoadRect.idx, Rect.unit])))
/-- A load of the last 256 rows. -/
theorem load_bot {a : Memref sig .tc .vmem S512x512 .f32} (h : a.IsWhole) (X : Vec Ideal S512x512 .f32) :
    View.readAt (Elt Ideal) a.view (Rect.unit (s := S512x512) ![256, 0] ![256, 512] inb_S512x512_S256x512_256_0).toLoadRect (h.unread X) = bot X :=
  funext fun y => (h.readAt_unread X _ _).trans (congrArg X (funext fun b => Fin.ext (by fin_cases b <;> simp [Rect.toLoadRect, LoadRect.idx, Rect.unit])))
/-- A load of the means. -/
theorem load_row0 {a : Memref sig .tc .vmem S2x512 .f32} (h : a.IsWhole) (X : Vec Ideal S2x512 .f32) :
    View.readAt (Elt Ideal) a.view (Rect.unit (s := S2x512) ![0, 0] ![1, 512] inb_S2x512_S1x512_0_0).toLoadRect (h.unread X) = row 0 X :=
  funext fun y => (h.readAt_unread X _ _).trans (congrArg X (funext fun b => Fin.ext (by
    fin_cases b
    · have := (y 0).isLt
      simp only [Rect.toLoadRect, LoadRect.idx, Rect.unit]
      show 0 + 1 * (y 0).val = 0
      have : (y 0).val < 1 := (y 0).isLt
      omega
    · simp [Rect.toLoadRect, LoadRect.idx, Rect.unit])))
/-- A load of the standard deviations. -/
theorem load_row1 {a : Memref sig .tc .vmem S2x512 .f32} (h : a.IsWhole) (X : Vec Ideal S2x512 .f32) :
    View.readAt (Elt Ideal) a.view (Rect.unit (s := S2x512) ![1, 0] ![1, 512] inb_S2x512_S1x512_1_0).toLoadRect (h.unread X) = row 1 X :=
  funext fun y => (h.readAt_unread X _ _).trans (congrArg X (funext fun b => Fin.ext (by
    fin_cases b
    · show 1 + 1 * (y 0).val = 1
      have : (y 0).val < 1 := (y 0).isLt
      omega
    · simp [Rect.toLoadRect, LoadRect.idx, Rect.unit])))
/-- A load of a whole table of rows. -/
theorem load_table {a : Memref sig .tc .vmem S256x256 .f32} (h : a.IsWhole) (X : Vec Ideal S256x256 .f32) :
    View.readAt (Elt Ideal) a.view (Rect.unit (s := S256x256) ![0, 0] ![256, 256] inb_S256x256_S256x256_0_0).toLoadRect (h.unread X) = X := by
  rw [View.readAt_eq_ld, h.read_unread, View.ld_unit_zero (S := S256x256) zeros]
/-- A load of a whole table of the state before. -/
theorem load_carry {a : Memref sig .tc .vmem S256x1 .f32} (h : a.IsWhole) (X : Vec Ideal S256x1 .f32) :
    View.readAt (Elt Ideal) a.view (Rect.unit (s := S256x1) ![0, 0] ![256, 1] inb_S256x1_S256x1_0_0).toLoadRect (h.unread X) = X := by
  rw [View.readAt_eq_ld, h.read_unread, View.ld_unit_zero (S := S256x1) zeros]
/-- A load of a whole kept state. -/
theorem load_state {a : Memref sig .tc .vmem S1x512 .f32} (h : a.IsWhole) (X : Vec Ideal S1x512 .f32) :
    View.readAt (Elt Ideal) a.view (Rect.unit (s := S1x512) ![0, 0] ![1, 512] inb_S1x512_S1x512_0_0).toLoadRect (h.unread X) = X := by
  rw [View.readAt_eq_ld, h.read_unread, View.ld_unit_zero (S := S1x512) zeros]
/-- A load of a kept state just stored. -/
theorem load_stored (v : View sig .tc .vmem S1x512 .f32) (w : FVec Ideal S1x512 .f32) :
    v.readCov (Val := Elt Ideal) [⟨Rect.unit ![0, 0] ![1, 512] inb_S1x512_S1x512_0_0, w⟩]
      (Rect.unit (s := S1x512) ![0, 0] ![1, 512] inb_S1x512_S1x512_0_0).toLoadRect = w :=
  View.readCov_unit_zero (S := S1x512) _ zeros _ _

/-- The state stored at a first step is the loaded row. -/
theorem pay1_eq (w : FVec Ideal S1x512 .f32) : k1_pay1 w = w := by unfold k1_pay1; simp only [shapeCast_self]
/-- The second state stored at a first step is the loaded row. -/
theorem pay2_eq (w : FVec Ideal S1x512 .f32) : k1_pay2 w = w := by unfold k1_pay2; simp only [shapeCast_self]
/-- The first half's store of means is the block of means, a unit axis added. -/
theorem pay11_eq (sm : FVec Ideal S1x512 .f32) (B : FVec Ideal S256x512 .f32) :
    k1_pay11 sm L₁ P₁ B = shapeCast S256x1x512 (mus sm B) shapeCasts_S256x512_S256x1x512 := by unfold k1_pay11; rw [pay7_eq]
/-- The second half's store of means is the block of means after the first half's last row, a unit axis added. -/
theorem pay17_eq (sm : FVec Ideal S1x512 .f32) (B B' : FVec Ideal S256x512 .f32) :
    k1_pay17 (k1_pay3 L₁) (k1_pay5 P₁) (k1_pay7 sm L₁ P₁ B) B'
      = shapeCast S256x1x512 (mus (last (mus sm B)) B') shapeCasts_S256x512_S256x1x512 := by unfold k1_pay17; rw [pay13_eq]
/-- The second half's store of variances is the block of variances after the first half's last rows, a unit axis added. -/
theorem pay18_eq (sm sv : FVec Ideal S1x512 .f32) (B B' : FVec Ideal S256x512 .f32) :
    k1_pay18 (k1_pay3 L₁) (k1_pay4 L₂) (k1_pay5 P₁) (k1_pay6 P₂) (k1_pay7 sm L₁ P₁ B) (k1_pay9 sm sv L₁ L₂ P₁ P₂ B) B'
      = shapeCast S256x1x512 (vars (last (mus sm B)) (last (vars sm sv B)) B') shapeCasts_S256x512_S256x1x512 := by unfold k1_pay18; rw [pay15_eq]
/-- The first half's store of variances is the block of variances, a unit axis added. -/
theorem pay12_eq (sm sv : FVec Ideal S1x512 .f32) (B : FVec Ideal S256x512 .f32) :
    k1_pay12 (k1_pay9 sm sv L₁ L₂ P₁ P₂ B) = shapeCast S256x1x512 (vars sm sv B) shapeCasts_S256x512_S256x1x512 := by unfold k1_pay12; rw [pay9_eq]

end Loads

/-- The running mean after a step's first block. -/
abbrev midMu (sm : FVec Ideal S1x512 .f32) (X : Vec Ideal S512x512 .f32) : FVec Ideal S1x512 .f32 := last (mus sm (top X))
/-- The running variance after a step's first block. -/
abbrev midVar (sm sv : FVec Ideal S1x512 .f32) (X : Vec Ideal S512x512 .f32) : FVec Ideal S1x512 .f32 := last (vars sm sv (top X))

/-- The normalized rows a step stores. -/
abbrev pieces6 (sm sv : FVec Ideal S1x512 .f32) (X : Vec Ideal S512x512 .f32) : List (View.Piece (Elt Ideal) S512x512 .f32) :=
  [⟨Rect.unit ![256, 0] ![256, 512] inb_S512x512_S256x512_256_0, norms (midMu sm X) (midVar sm sv X) (bot X)⟩,
    ⟨Rect.unit ![0, 0] ![256, 512] inb_S512x512_S256x512_0_0, norms sm sv (top X)⟩]
/-- The states a step stores. -/
abbrev pieces7 (sm sv : FVec Ideal S1x512 .f32) (X : Vec Ideal S512x512 .f32) : List (View.Piece (Elt Ideal) S512x2x512 .f32) :=
  [⟨Rect.unit ![256, 1, 0] ![256, 1, 512] inb_S512x2x512_S256x1x512_256_1_0, shapeCast S256x1x512 (vars (midMu sm X) (midVar sm sv X) (bot X)) shapeCasts_S256x512_S256x1x512⟩,
    ⟨Rect.unit ![256, 0, 0] ![256, 1, 512] inb_S512x2x512_S256x1x512_256_0_0, shapeCast S256x1x512 (mus (midMu sm X) (bot X)) shapeCasts_S256x512_S256x1x512⟩,
    ⟨Rect.unit ![0, 1, 0] ![256, 1, 512] inb_S512x2x512_S256x1x512_0_1_0, shapeCast S256x1x512 (vars sm sv (top X)) shapeCasts_S256x512_S256x1x512⟩,
    ⟨Rect.unit ![0, 0, 0] ![256, 1, 512] inb_S512x2x512_S256x1x512_0_0_0, shapeCast S256x1x512 (mus sm (top X)) shapeCasts_S256x512_S256x1x512⟩]

section Runs

variable (c : Dev nD) (i : grid1.Coords) (a2 : Memref sig .tc .vmem S512x512 .f32) (h2 : a2.IsWhole) (a3 : Memref sig .tc .vmem S2x512 .f32) (h3 : a3.IsWhole) (a4 : Memref sig .tc .vmem S256x256 .f32) (h4 : a4.IsWhole) (a5 : Memref sig .tc .vmem S256x256 .f32) (h5 : a5.IsWhole) (a6 : Memref sig .tc .vmem S256x1 .f32) (h6 : a6.IsWhole) (a7 : Memref sig .tc .vmem S256x1 .f32) (h7 : a7.IsWhole) (a8 : Memref sig .tc .vmem S512x512 .f32) (h8 : a8.IsWhole) (a9 : Memref sig .tc .vmem S512x2x512 .f32) (h9 : a9.IsWhole) (a10 : Memref sig .tc .vmem S1x512 .f32) (h10 : a10.IsWhole) (a11 : Memref sig .tc .vmem S1x512 .f32) (h11 : a11.IsWhole)
variable (X : Vec Ideal S512x512 .f32) (S : Vec Ideal S2x512 .f32)

/-- A first step starts from the statistics: its normalized rows. -/
theorem out6_A (hc : cond1_0 i) :
    out1_A_6 c i a2 h2 a3 h3 a4 h4 a5 h5 a6 h6 a7 h7 a8 h8 a9 h9 a10 h10 a11 h11 hc X S L₁ L₂ P₁ P₂ = VO1_6.read (Elt Ideal) (VO1_6.writes (Elt Ideal) VO1_6.junk (pieces6 (row 0 S) (row 1 S) X)) := by
  unfold out1_A_6 kernelRun1_A
  dsimp only
  sl_unfold_words
  simp only [load_top, load_bot, load_row0, load_row1, load_table, load_carry, load_state, load_stored, pay1_eq, pay2_eq, pay10_eq, pay16_eq]

/-- A first step starts from the statistics: its states. -/
theorem out7_A (hc : cond1_0 i) :
    out1_A_7 c i a2 h2 a3 h3 a4 h4 a5 h5 a6 h6 a7 h7 a8 h8 a9 h9 a10 h10 a11 h11 hc X S L₁ L₂ P₁ P₂ = VO1_7.read (Elt Ideal) (VO1_7.writes (Elt Ideal) VO1_7.junk (pieces7 (row 0 S) (row 1 S) X)) := by
  unfold out1_A_7 kernelRun1_A
  dsimp only
  sl_unfold_words
  simp only [load_top, load_bot, load_row0, load_row1, load_table, load_carry, load_state, load_stored, pay1_eq, pay2_eq, pay11_eq, pay12_eq, pay17_eq, pay18_eq]

/-- A first step starts from the statistics: the running mean it keeps. -/
theorem kept0_A (hc : cond1_0 i) :
    sout1_A_0 c i a2 h2 a3 h3 a4 h4 a5 h5 a6 h6 a7 h7 a8 h8 a9 h9 a10 h10 a11 h11 hc X S L₁ L₂ P₁ P₂ = last (mus (midMu (row 0 S) X) (bot X)) := by
  unfold sout1_A_0
  rw [View.read_writes_eq_canon _ _ _ (scover1_A_0 c i a2 h2 a3 h3 a4 h4 a5 h5 a6 h6 a7 h7 a8 h8 a9 h9 a10 h10 a11 h11 hc X S L₁ L₂ P₁ P₂)]
  unfold kernelRun1_A
  dsimp only
  sl_unfold_words
  rw [View.canon_cons_unit_zero (S := S1x512) zeros]
  simp only [load_top, load_bot, load_row0, load_row1, load_table, load_carry, load_state, load_stored, pay1_eq, pay2_eq, pay19_eq]

/-- A first step starts from the statistics: the running variance it keeps. -/
theorem kept1_A (hc : cond1_0 i) :
    sout1_A_1 c i a2 h2 a3 h3 a4 h4 a5 h5 a6 h6 a7 h7 a8 h8 a9 h9 a10 h10 a11 h11 hc X S L₁ L₂ P₁ P₂ = last (vars (midMu (row 0 S) X) (midVar (row 0 S) (row 1 S) X) (bot X)) := by
  unfold sout1_A_1
  rw [View.read_writes_eq_canon _ _ _ (scover1_A_1 c i a2 h2 a3 h3 a4 h4 a5 h5 a6 h6 a7 h7 a8 h8 a9 h9 a10 h10 a11 h11 hc X S L₁ L₂ P₁ P₂)]
  unfold kernelRun1_A
  dsimp only
  sl_unfold_words
  rw [View.canon_cons_unit_zero (S := S1x512) zeros]
  simp only [load_top, load_bot, load_row0, load_row1, load_table, load_carry, load_state, load_stored, pay1_eq, pay2_eq, pay20_eq]

/-- A later step starts from the kept states: its normalized rows. -/
theorem out6_B (hc : ¬cond1_0 i) (sm sv : FVec Ideal S1x512 .f32) :
    out1_B_6 c i a2 h2 a3 h3 a4 h4 a5 h5 a6 h6 a7 h7 a8 h8 a9 h9 a10 h10 a11 h11 hc X S L₁ L₂ P₁ P₂ sm sv = VO1_6.read (Elt Ideal) (VO1_6.writes (Elt Ideal) VO1_6.junk (pieces6 sm sv X)) := by
  unfold out1_B_6 kernelRun1_B
  dsimp only
  sl_unfold_words
  simp only [load_top, load_bot, load_row0, load_row1, load_table, load_carry, load_state, load_stored, pay1_eq, pay2_eq, pay10_eq, pay16_eq]

/-- A later step starts from the kept states: its states. -/
theorem out7_B (hc : ¬cond1_0 i) (sm sv : FVec Ideal S1x512 .f32) :
    out1_B_7 c i a2 h2 a3 h3 a4 h4 a5 h5 a6 h6 a7 h7 a8 h8 a9 h9 a10 h10 a11 h11 hc X S L₁ L₂ P₁ P₂ sm sv = VO1_7.read (Elt Ideal) (VO1_7.writes (Elt Ideal) VO1_7.junk (pieces7 sm sv X)) := by
  unfold out1_B_7 kernelRun1_B
  dsimp only
  sl_unfold_words
  simp only [load_top, load_bot, load_row0, load_row1, load_table, load_carry, load_state, load_stored, pay1_eq, pay2_eq, pay11_eq, pay12_eq, pay17_eq, pay18_eq]

/-- A later step starts from the kept states: the running mean it keeps. -/
theorem kept0_B (hc : ¬cond1_0 i) (sm sv : FVec Ideal S1x512 .f32) :
    sout1_B_0 c i a2 h2 a3 h3 a4 h4 a5 h5 a6 h6 a7 h7 a8 h8 a9 h9 a10 h10 a11 h11 hc X S L₁ L₂ P₁ P₂ sm sv = last (mus (midMu sm X) (bot X)) := by
  unfold sout1_B_0
  rw [View.read_writes_eq_canon _ _ _ (scover1_B_0 c i a2 h2 a3 h3 a4 h4 a5 h5 a6 h6 a7 h7 a8 h8 a9 h9 a10 h10 a11 h11 hc X S L₁ L₂ P₁ P₂ sm sv)]
  unfold kernelRun1_B
  dsimp only
  sl_unfold_words
  rw [View.canon_unit_zero (S := S1x512) zeros]
  simp only [load_top, load_bot, load_row0, load_row1, load_table, load_carry, load_state, load_stored, pay1_eq, pay2_eq, pay19_eq]

/-- A later step starts from the kept states: the running variance it keeps. -/
theorem kept1_B (hc : ¬cond1_0 i) (sm sv : FVec Ideal S1x512 .f32) :
    sout1_B_1 c i a2 h2 a3 h3 a4 h4 a5 h5 a6 h6 a7 h7 a8 h8 a9 h9 a10 h10 a11 h11 hc X S L₁ L₂ P₁ P₂ sm sv = last (vars (midMu sm X) (midVar sm sv X) (bot X)) := by
  unfold sout1_B_1
  rw [View.read_writes_eq_canon _ _ _ (scover1_B_1 c i a2 h2 a3 h3 a4 h4 a5 h5 a6 h6 a7 h7 a8 h8 a9 h9 a10 h10 a11 h11 hc X S L₁ L₂ P₁ P₂ sm sv)]
  unfold kernelRun1_B
  dsimp only
  sl_unfold_words
  rw [View.canon_unit_zero (S := S1x512) zeros]
  simp only [load_top, load_bot, load_row0, load_row1, load_table, load_carry, load_state, load_stored, pay1_eq, pay2_eq, pay20_eq]

end Runs

section Read

variable {x : ℕ → ℝ} {n : ℕ} {sm sv : FVec Ideal S1x512 .f32} {X : Vec Ideal S512x512 .f32} {j : Fin 512}

/-- What a column's step of 512 rows starts from: the two states after `n` rows and the rows from `n`. -/
structure From (x : ℕ → ℝ) (n : ℕ) (sm sv : FVec Ideal S1x512 .f32) (X : Vec Ideal S512x512 .f32) (j : Fin 512) : Prop where
  mu : sm (ix2 0 j) = ((Cert.Spec.muAt x n : ℝ) : EReal)
  var : sv (ix2 0 j) = ((Cert.Spec.varAt x n : ℝ) : EReal)
  rows : ∀ k : Fin 512, X (ix2 k j) = ((x (n + k.val) : ℝ) : EReal)

/-- The step's first block. -/
theorem From.fst (h : From x n sm sv X j) : At x n sm sv (top X) j := ⟨h.mu, h.var, fun k => h.rows ⟨k.val, by omega⟩⟩
/-- The step's second block. -/
theorem From.snd (h : From x n sm sv X j) : At x (n + 256) (midMu sm X) (midVar sm sv X) (bot X) j :=
  h.fst.next fun k => (h.rows ⟨256 + k.val, by omega⟩).trans (by rw [Nat.add_assoc])

/-- The running mean a step keeps is that after its 512 rows. -/
theorem kept0_apply (h : From x n sm sv X j) :
    last (mus (midMu sm X) (bot X)) (ix2 0 j) = ((Cert.Spec.muAt x (n + 512) : ℝ) : EReal) := by
  rw [last_apply, mus_apply h.snd]; rfl
/-- The running variance a step keeps is that after its 512 rows. -/
theorem kept1_apply (h : From x n sm sv X j) :
    last (vars (midMu sm X) (midVar sm sv X) (bot X)) (ix2 0 j) = ((Cert.Spec.varAt x (n + 512) : ℝ) : EReal) := by
  rw [last_apply, vars_apply h.snd]; rfl

/-- The normalized rows a step stores, read at a row. -/
theorem norm_apply (h : From x n sm sv X j) (hs : 0 < Cert.Spec.std0 x) (v : View sig .tc .vmem S512x512 .f32) (f : v.ty.Contents (Elt Ideal)) (i : Fin 512) :
    v.read (Elt Ideal) (v.writes (Elt Ideal) f (pieces6 sm sv X)) (ix2 i j) = ((Cert.Spec.normAt x (n + i.val) : ℝ) : EReal) := by
  by_cases hi : i.val < 256
  · refine (View.read_writes_cons_rows_of_not_mem v f _ _ _ _ rfl rfl (Or.inl hi)).trans
      ((View.read_writes_cons_rows_of_mem v f _ _ _ _ (ix2 (⟨i.val, hi⟩ : Fin 256) j) rfl (Nat.zero_add _).symm rfl).trans ?_)
    exact norms_apply h.fst hs ⟨i.val, hi⟩
  · refine (View.read_writes_cons_rows_of_mem v f _ _ _ _ (ix2 (⟨i.val - 256, by omega⟩ : Fin 256) j) rfl (show i.val = 256 + (i.val - 256) by omega) rfl).trans ?_
    refine (norms_apply h.snd hs ⟨i.val - 256, by omega⟩).trans ?_
    rw [show n + 256 + (i.val - 256) = n + i.val by omega]

/-- The running means a step stores, read at a row. -/
theorem mu_apply (h : From x n sm sv X j) (v : View sig .tc .vmem S512x2x512 .f32) (f : v.ty.Contents (Elt Ideal)) (i : Fin 512) :
    v.read (Elt Ideal) (v.writes (Elt Ideal) f (pieces7 sm sv X)) (ix3 i 0 j) = ((Cert.Spec.muAt x (n + i.val + 1) : ℝ) : EReal) := by
  refine (View.read_writes_cons_unit_of_not_mem v f _ _ _ _ rfl (1 : Fin 3) (Or.inl Nat.one_pos)).trans ?_
  by_cases hi : i.val < 256
  · refine (View.read_writes_cons_unit_of_not_mem v f _ _ _ _ rfl (0 : Fin 3) (Or.inl hi)).trans ?_
    refine (View.read_writes_cons_unit_of_not_mem v f _ _ _ _ rfl (1 : Fin 3) (Or.inl Nat.one_pos)).trans ?_
    refine (View.read_writes_cons_unit_of_mem v f _ _ _ _ (ix3 (⟨i.val, hi⟩ : Fin 256) (0 : Fin 1) j) rfl (fun a => ?_)).trans ?_
    · fin_cases a
      · exact (Nat.zero_add _).symm
      · rfl
      · exact (Nat.zero_add _).symm
    · exact (mid_apply _ _ j).trans (mus_apply h.fst ⟨i.val, hi⟩)
  · refine (View.read_writes_cons_unit_of_mem v f _ _ _ _ (ix3 (⟨i.val - 256, by omega⟩ : Fin 256) (0 : Fin 1) j) rfl (fun a => ?_)).trans ?_
    · fin_cases a
      · show i.val = 256 + (i.val - 256); omega
      · rfl
      · exact (Nat.zero_add _).symm
    · refine ((mid_apply _ _ j).trans (mus_apply h.snd ⟨i.val - 256, by omega⟩)).trans ?_
      rw [show n + 256 + (i.val - 256) + 1 = n + i.val + 1 by omega]

/-- The running variances a step stores, read at a row. -/
theorem var_apply (h : From x n sm sv X j) (v : View sig .tc .vmem S512x2x512 .f32) (f : v.ty.Contents (Elt Ideal)) (i : Fin 512) :
    v.read (Elt Ideal) (v.writes (Elt Ideal) f (pieces7 sm sv X)) (ix3 i 1 j) = ((Cert.Spec.varAt x (n + i.val + 1) : ℝ) : EReal) := by
  by_cases hi : i.val < 256
  · refine (View.read_writes_cons_unit_of_not_mem v f _ _ _ _ rfl (0 : Fin 3) (Or.inl hi)).trans ?_
    refine (View.read_writes_cons_unit_of_not_mem v f _ _ _ _ rfl (0 : Fin 3) (Or.inl hi)).trans ?_
    refine (View.read_writes_cons_unit_of_mem v f _ _ _ _ (ix3 (⟨i.val, hi⟩ : Fin 256) (0 : Fin 1) j) rfl (fun a => ?_)).trans ?_
    · fin_cases a
      · exact (Nat.zero_add _).symm
      · rfl
      · exact (Nat.zero_add _).symm
    · exact (mid_apply _ _ j).trans (vars_apply h.fst ⟨i.val, hi⟩)
  · refine (View.read_writes_cons_unit_of_mem v f _ _ _ _ (ix3 (⟨i.val - 256, by omega⟩ : Fin 256) (0 : Fin 1) j) rfl (fun a => ?_)).trans ?_
    · fin_cases a
      · show i.val = 256 + (i.val - 256); omega
      · rfl
      · exact (Nat.zero_add _).symm
    · refine ((mid_apply _ _ j).trans (vars_apply h.snd ⟨i.val - 256, by omega⟩)).trans ?_
      rw [show n + 256 + (i.val - 256) + 1 = n + i.val + 1 by omega]

end Read

end Cert.KernelIdeal.Scan
-- ==== Proof.Val.StatsRow.lean ====
module

public import proofs.«01_k».proof.Proof.R0Frame
public import proofs.«01_k».proof.Proof.Val.Result
public import Idealize.ShloMosaic.Lib.Pointwise

@[expose] public section

set_option maxRecDepth 16384

noncomputable section

/-! The statistics call's arithmetic at the extended reals, read at one column. -/

namespace Cert.KernelIdeal.Stats

open Idealize.ShloMosaic Idealize.ShloMosaic.TcCoe
open Cert.KernelIdeal Cert.KernelIdeal.Facts Cert.KernelIdeal.Gen

/-- The zeros the sums start from. -/
theorem pay1_apply (a : Fin 2) (j : Fin 512) : k0_pay1 (F := Ideal) (ix2 a j) = ((0 : ℝ) : EReal) := by
  unfold k0_pay1
  rw [shapeCast_self]
  exact Ideal.ofBits_zero_f32

/-- A sum over a block's rows, read at a column. -/
theorem sum_apply (v : FVec Ideal S1024x512 .f32) (j : Fin 512) :
    shapeCast S1x512 (multiReduction .add [0] S512 v 0x00000000#32 reduces_S1024x512_S512 (.inl rfl) rfl) shapeCasts_S512_S1x512 (ix2 0 j)
      = ∑ k : Fin 1024, v (ix2 k j) := by pointwise

/-- A block's rows added to the column's sum. -/
theorem pay2_apply (v3 : FVec Ideal S1024x512 .f32) (v4 : FVec Ideal S1x512 .f32) (j : Fin 512) (f : ℕ → ℝ) (n : ℕ)
    (h4 : v4 (ix2 0 j) = ((∑ k ∈ Finset.range n, f k : ℝ) : EReal)) (h3 : ∀ k : Fin 1024, v3 (ix2 k j) = ((f (n + k.val) : ℝ) : EReal)) :
    k0_pay2 (F := Ideal) v3 v4 (ix2 0 j) = ((∑ k ∈ Finset.range (n + 1024), f k : ℝ) : EReal) := by
  unfold k0_pay2
  dsimp only
  rw [shapeCast_self, Cert.Spec.sum_block, EReal.coe_add, ← Cert.Spec.coe_sum Finset.univ (fun k : Fin 1024 => f (n + k.val))]
  refine congrArg₂ (· + ·) h4 ((sum_apply v3 j).trans (Finset.sum_congr rfl fun k _ => h3 k))

/-- A block's squares added to the column's sum of squares. -/
theorem pay3_apply (v3 : FVec Ideal S1024x512 .f32) (v11 : FVec Ideal S1x512 .f32) (j : Fin 512) (f : ℕ → ℝ) (n : ℕ)
    (h11 : v11 (ix2 0 j) = ((∑ k ∈ Finset.range n, f k * f k : ℝ) : EReal)) (h3 : ∀ k : Fin 1024, v3 (ix2 k j) = ((f (n + k.val) : ℝ) : EReal)) :
    k0_pay3 (F := Ideal) v3 v11 (ix2 0 j) = ((∑ k ∈ Finset.range (n + 1024), f k * f k : ℝ) : EReal) := by
  unfold k0_pay3
  dsimp only
  rw [shapeCast_self, Cert.Spec.sum_block, EReal.coe_add, ← Cert.Spec.coe_sum Finset.univ (fun k : Fin 1024 => f (n + k.val) * f (n + k.val))]
  refine congrArg₂ (· + ·) h11 ((sum_apply (mulf v3 v3) j).trans (Finset.sum_congr rfl fun k _ => ?_))
  have e : mulf v3 v3 (ix2 k j) = v3 (ix2 k j) * v3 (ix2 k j) := rfl
  rw [e, h3, ← EReal.coe_mul]

/-- A column's mean from its sum. -/
theorem mean_of_sum (N : ℕ) (x : ℕ → ℝ) : (∑ k ∈ Finset.range N, x k) * (1 / (N : ℝ)) = Cert.Spec.mean N x := by
  unfold Cert.Spec.mean
  rw [Finset.sum_range]

/-- A column's standard deviation from its sum and its sum of squares. -/
theorem std_of_sums (N : ℕ) (hN : 1 ≤ N) (x : ℕ → ℝ) :
    Ideal.sqrt (max (((((∑ k ∈ Finset.range N, x k * x k) - (∑ k ∈ Finset.range N, x k) * Cert.Spec.mean N x) * (1 / ((N : ℝ) - 1)) : ℝ)) : EReal) ((0 : ℝ) : EReal))
      = ((Cert.Spec.std N x : ℝ) : EReal) := by
  have hd := Cert.Spec.dev2_eq N hN x
  have hn := Cert.Spec.dev2_nonneg N x
  have h1 : (0 : ℝ) ≤ (N : ℝ) - 1 := sub_nonneg.2 (by exact_mod_cast hN)
  have hp : 0 ≤ Cert.Spec.dev2 N x * (1 / ((N : ℝ) - 1)) := mul_nonneg hn (one_div_nonneg.2 h1)
  rw [← Finset.sum_range (fun k => x k), ← Finset.sum_range (fun k => x k * x k)] at hd
  rw [← hd, max_eq_left (EReal.coe_le_coe_iff.2 hp), Ideal.sqrt_coe, if_neg (not_lt.2 hp)]
  rfl

/-- The number of rows as a real number. -/
theorem rows_cast : ((32768 : ℕ) : ℝ) = 32768 := Nat.cast_ofNat

/-- The mean of a column's 32768 rows. -/
theorem pay4_apply (v22 : FVec Ideal S1x512 .f32) (j : Fin 512) (x : ℕ → ℝ)
    (h : v22 (ix2 0 j) = ((∑ k ∈ Finset.range 32768, x k : ℝ) : EReal)) :
    k0_pay4 (F := Ideal) v22 (ix2 0 j) = ((Cert.Spec.mean0 x : ℝ) : EReal) := by
  have e : k0_pay4 (F := Ideal) v22 (ix2 0 j) = Ideal.div (v22 (ix2 0 j)) (Ideal.ofBits .f32 0x47000000#32) := rfl
  rw [e, h, Cert.Spec.ofBits_rows, Ideal.div_coe (by norm_num), ← EReal.coe_mul, Cert.Spec.mean0, ← mean_of_sum, rows_cast]

/-- The standard deviation of a column's 32768 rows. -/
theorem pay5_apply (v22 v23 : FVec Ideal S1x512 .f32) (j : Fin 512) (x : ℕ → ℝ)
    (h : v22 (ix2 0 j) = ((∑ k ∈ Finset.range 32768, x k : ℝ) : EReal))
    (h' : v23 (ix2 0 j) = ((∑ k ∈ Finset.range 32768, x k * x k : ℝ) : EReal)) :
    k0_pay5 (F := Ideal) v22 v23 (ix2 0 j) = ((Cert.Spec.std0 x : ℝ) : EReal) := by
  have e : k0_pay5 (F := Ideal) v22 v23 (ix2 0 j)
      = Ideal.sqrt (max (Ideal.div (v23 (ix2 0 j) - v22 (ix2 0 j) * k0_pay4 (F := Ideal) v22 (ix2 0 j))
          (Ideal.ofBits .f32 0x47000000#32 - Ideal.ofBits .f32 0x3F800000#32)) (Ideal.ofBits .f32 0x00000000#32)) := rfl
  have e0 : Ideal.ofBits .f32 0x00000000#32 = ((0 : ℝ) : EReal) := Ideal.ofBits_zero_f32
  have hs := std_of_sums 32768 (by norm_num) x
  rw [rows_cast] at hs
  rw [e, pay4_apply v22 j x h, h, h', Cert.Spec.ofBits_rows, Cert.Spec.ofBits_one, e0, ← EReal.coe_mul, ← EReal.coe_sub, ← EReal.coe_sub,
    Ideal.div_coe (by norm_num), ← EReal.coe_mul]
  exact hs

end Cert.KernelIdeal.Stats
-- ==== Proof.Val.StatsRun.lean ====
module

public import proofs.«01_k».proof.Proof.Val.StatsRow
public import Idealize.ShloMosaic.Lib.WritesUnit
public import Idealize.ShloMosaic.Lib.WholeRead

@[expose] public section

set_option maxRecDepth 16384

noncomputable section

/-! What one step of the statistics call leaves, read at one column. -/

namespace Cert.KernelIdeal.Stats

open Idealize.ShloMosaic Idealize.ShloMosaic.TcCoe Idealize.ShloMosaic.Tactic
open Cert.KernelIdeal Cert.KernelIdeal.Facts Cert.KernelIdeal.Gen Cert.KernelIdeal.R0

/-- The two running sums of a column after `n` rows: its entries and their squares. -/
structure Sums (x : ℕ → ℝ) (n : ℕ) (s : Vec Ideal S2x512 .f32) (j : Fin 512) : Prop where
  sum : s (ix2 0 j) = ((∑ k ∈ Finset.range n, x k : ℝ) : EReal)
  sq : s (ix2 1 j) = ((∑ k ∈ Finset.range n, x k * x k : ℝ) : EReal)

section Rows

variable (v : View sig .tc .vmem S2x512 .f32) (f : v.ty.Contents (Elt Ideal)) (w0 w1 : FVec Ideal S1x512 .f32) (L : List (View.Piece (Elt Ideal) S2x512 .f32))

/-- Two stored rows, the second last: the second read back. -/
theorem row1_apply (j : Fin 512) :
    v.read (Elt Ideal) (v.writes (Elt Ideal) f (⟨Rect.unit ![1, 0] ![1, 512] inb_S2x512_S1x512_1_0, w1⟩ :: L)) (ix2 1 j) = w1 (ix2 0 j) :=
  View.read_writes_cons_rows_of_mem v f _ _ _ _ (ix2 0 j) rfl rfl rfl

/-- The first row read back past the second. -/
theorem row0_apply (j : Fin 512) :
    v.read (Elt Ideal) (v.writes (Elt Ideal) f (⟨Rect.unit ![1, 0] ![1, 512] inb_S2x512_S1x512_1_0, w1⟩
      :: ⟨Rect.unit ![0, 0] ![1, 512] inb_S2x512_S1x512_0_0, w0⟩ :: L)) (ix2 0 j) = w0 (ix2 0 j) :=
  (View.read_writes_cons_rows_of_not_mem v f _ _ _ _ rfl rfl (Or.inl Nat.one_pos)).trans
    (View.read_writes_cons_rows_of_mem v f _ _ _ _ (ix2 0 j) rfl rfl rfl)

/-- The first row's rectangle sends a column to row 0. -/
theorem idx0 (j : Fin 512) : (Rect.unit (s := S2x512) ![0, 0] ![1, 512] inb_S2x512_S1x512_0_0).toLoadRect.idx (ix2 0 j) = ix2 0 j :=
  funext fun b => Fin.ext (by fin_cases b <;> simp [Rect.toLoadRect, LoadRect.idx, Rect.unit])
/-- The second row's rectangle sends a column to row 1. -/
theorem idx1 (j : Fin 512) : (Rect.unit (s := S2x512) ![1, 0] ![1, 512] inb_S2x512_S1x512_1_0).toLoadRect.idx (ix2 0 j) = ix2 1 j :=
  funext fun b => Fin.ext (by fin_cases b <;> simp [Rect.toLoadRect, LoadRect.idx, Rect.unit])
/-- The whole block's rectangle moves nothing. -/
theorem idxW (k : Fin 1024) (j : Fin 512) :
    (Rect.unit (s := S1024x512) ![0, 0] ![1024, 512] inb_S1024x512_S1024x512_0_0).toLoadRect.idx (ix2 k j) = ix2 k j :=
  funext fun b => Fin.ext (by fin_cases b <;> simp [Rect.toLoadRect, LoadRect.idx, Rect.unit])

/-- A load of the first row of a buffer holding `xs`. -/
theorem load0 {a : Memref sig .tc .vmem S2x512 .f32} (h : a.IsWhole) (xs : Vec Ideal S2x512 .f32) (j : Fin 512) :
    View.readAt (Elt Ideal) a.view (Rect.unit (s := S2x512) ![0, 0] ![1, 512] inb_S2x512_S1x512_0_0).toLoadRect (h.unread xs) (ix2 0 j) = xs (ix2 0 j) :=
  (h.readAt_unread xs _ _).trans (congrArg xs (idx0 j))
/-- A load of the second row of a buffer holding `xs`. -/
theorem load1 {a : Memref sig .tc .vmem S2x512 .f32} (h : a.IsWhole) (xs : Vec Ideal S2x512 .f32) (j : Fin 512) :
    View.readAt (Elt Ideal) a.view (Rect.unit (s := S2x512) ![1, 0] ![1, 512] inb_S2x512_S1x512_1_0).toLoadRect (h.unread xs) (ix2 0 j) = xs (ix2 1 j) :=
  (h.readAt_unread xs _ _).trans (congrArg xs (idx1 j))
/-- A load of a whole block holding `x0`. -/
theorem loadW {a : Memref sig .tc .vmem S1024x512 .f32} (h : a.IsWhole) (x0 : Vec Ideal S1024x512 .f32) (k : Fin 1024) (j : Fin 512) :
    View.readAt (Elt Ideal) a.view (Rect.unit (s := S1024x512) ![0, 0] ![1024, 512] inb_S1024x512_S1024x512_0_0).toLoadRect (h.unread x0) (ix2 k j) = x0 (ix2 k j) :=
  (h.readAt_unread x0 _ _).trans (congrArg x0 (idxW k j))

/-- A load of the first row where both rows were stored. -/
theorem cov0 (j : Fin 512) :
    v.readCov (⟨Rect.unit ![1, 0] ![1, 512] inb_S2x512_S1x512_1_0, w1⟩ :: ⟨Rect.unit ![0, 0] ![1, 512] inb_S2x512_S1x512_0_0, w0⟩ :: L)
      (Rect.unit (s := S2x512) ![0, 0] ![1, 512] inb_S2x512_S1x512_0_0).toLoadRect (ix2 0 j) = w0 (ix2 0 j) := by
  unfold View.readCov
  rw [View.readAt_apply, idx0]
  exact row0_apply _ _ _ _ _ j
/-- A load of the second row where both rows were stored. -/
theorem cov1 (j : Fin 512) :
    v.readCov (⟨Rect.unit ![1, 0] ![1, 512] inb_S2x512_S1x512_1_0, w1⟩ :: L)
      (Rect.unit (s := S2x512) ![1, 0] ![1, 512] inb_S2x512_S1x512_1_0).toLoadRect (ix2 0 j) = w1 (ix2 0 j) := by
  unfold View.readCov
  rw [View.readAt_apply, idx1]
  exact row1_apply _ _ _ _ j

/-- A load of the first row of a buffer stored whole. -/
theorem covW0 (W : FVec Ideal S2x512 .f32) (j : Fin 512) :
    v.readCov (Val := Elt Ideal) [⟨Rect.unit ![0, 0] S2x512.size inb_S2x512_S2x512_0_0, W⟩]
      (Rect.unit (s := S2x512) ![0, 0] ![1, 512] inb_S2x512_S1x512_0_0).toLoadRect (ix2 0 j) = W (ix2 0 j) := by
  unfold View.readCov
  rw [View.readAt_apply, idx0]
  exact View.read_writes_cons_rows_of_mem v _ _ _ _ _ (ix2 0 j) rfl rfl rfl
/-- A load of the second row of a buffer stored whole whose first row was stored again. -/
theorem covW1 (W : FVec Ideal S2x512 .f32) (j : Fin 512) :
    v.readCov (Val := Elt Ideal) [⟨Rect.unit ![0, 0] ![1, 512] inb_S2x512_S1x512_0_0, w0⟩, ⟨Rect.unit ![0, 0] S2x512.size inb_S2x512_S2x512_0_0, W⟩]
      (Rect.unit (s := S2x512) ![1, 0] ![1, 512] inb_S2x512_S1x512_1_0).toLoadRect (ix2 0 j) = W (ix2 1 j) := by
  unfold View.readCov
  rw [View.readAt_apply, idx1]
  exact (View.read_writes_cons_rows_of_not_mem v _ _ _ _ _ rfl rfl (Or.inr le_rfl)).trans
    (View.read_writes_cons_rows_of_mem v _ _ _ _ _ (ix2 1 j) rfl rfl rfl)

end Rows

variable {x : ℕ → ℝ} {n : ℕ} {j : Fin 512}

/-- A middle step adds its block to both sums. -/
theorem sums_B (c : Dev nD) (i : grid0.Coords) (a2 : Memref sig .tc .vmem S1024x512 .f32) (h2 : a2.IsWhole) (a3 : Memref sig .tc .vmem S2x512 .f32)
    (h3 : a3.IsWhole) (a4 : Memref sig .tc .vmem S2x512 .f32) (h4 : a4.IsWhole) (hc0 : ¬cond0_0 i) (hc1 : ¬cond0_1 i)
    (x0 : Vec Ideal S1024x512 .f32) (xs : Vec Ideal S2x512 .f32) (hs : Sums x n xs j)
    (hx : ∀ k : Fin 1024, x0 (ix2 k j) = ((x (n + k.val) : ℝ) : EReal)) :
    Sums x (n + 1024) (sout0_B_0 c i a2 h2 a3 h3 a4 h4 hc0 hc1 x0 xs) j := by
  unfold sout0_B_0 kernelRun0_B
  dsimp only
  sl_unfold_words
  constructor
  · refine (row0_apply _ _ _ _ _ j).trans (pay2_apply _ _ j x n ?_ ?_)
    · exact (load0 h4 xs j).trans hs.sum
    · exact fun k => (loadW h2 x0 k j).trans (hx k)
  · refine (row1_apply _ _ _ _ j).trans (pay3_apply _ _ j x n ?_ ?_)
    · exact (load1 h4 xs j).trans hs.sq
    · exact fun k => (loadW h2 x0 k j).trans (hx k)

/-- A sum over no rows is zero. -/
theorem zero_sum (f : ℕ → ℝ) : ((0 : ℝ) : EReal) = ((∑ k ∈ Finset.range 0, f k : ℝ) : EReal) := by
  rw [Finset.sum_range_zero]

/-- A first step starts both sums from zero. -/
theorem sums_A (c : Dev nD) (i : grid0.Coords) (a2 : Memref sig .tc .vmem S1024x512 .f32) (h2 : a2.IsWhole) (a3 : Memref sig .tc .vmem S2x512 .f32)
    (h3 : a3.IsWhole) (a4 : Memref sig .tc .vmem S2x512 .f32) (h4 : a4.IsWhole) (hc0 : cond0_0 i) (hc1 : ¬cond0_1 i)
    (x0 : Vec Ideal S1024x512 .f32) (hx : ∀ k : Fin 1024, x0 (ix2 k j) = ((x (0 + k.val) : ℝ) : EReal)) :
    Sums x (0 + 1024) (sout0_A_0 c i a2 h2 a3 h3 a4 h4 hc0 hc1 x0) j := by
  unfold sout0_A_0 kernelRun0_A
  dsimp only
  sl_unfold_words
  constructor
  · refine (row0_apply _ _ _ _ _ j).trans (pay2_apply _ _ j x 0 ?_ ?_)
    · exact (covW0 _ _ j).trans ((pay1_apply 0 j).trans (zero_sum _))
    · exact fun k => (loadW h2 x0 k j).trans (hx k)
  · refine (row1_apply _ _ _ _ j).trans (pay3_apply _ _ j x 0 ?_ ?_)
    · exact (covW1 _ _ _ j).trans ((pay1_apply 1 j).trans (zero_sum _))
    · exact fun k => (loadW h2 x0 k j).trans (hx k)

/-- A last step writes the column's mean and standard deviation. -/
theorem out_C (c : Dev nD) (i : grid0.Coords) (a2 : Memref sig .tc .vmem S1024x512 .f32) (h2 : a2.IsWhole) (a3 : Memref sig .tc .vmem S2x512 .f32)
    (h3 : a3.IsWhole) (a4 : Memref sig .tc .vmem S2x512 .f32) (h4 : a4.IsWhole) (hc0 : ¬cond0_0 i) (hc1 : cond0_1 i)
    (x0 : Vec Ideal S1024x512 .f32) (xs : Vec Ideal S2x512 .f32) (hs : Sums x n xs j) (hn : n + 1024 = 32768)
    (hx : ∀ k : Fin 1024, x0 (ix2 k j) = ((x (n + k.val) : ℝ) : EReal)) :
    out0_C_1 c i a2 h2 a3 h3 a4 h4 hc0 hc1 x0 xs (ix2 0 j) = ((Cert.Spec.mean0 x : ℝ) : EReal)
      ∧ out0_C_1 c i a2 h2 a3 h3 a4 h4 hc0 hc1 x0 xs (ix2 1 j) = ((Cert.Spec.std0 x : ℝ) : EReal) := by
  unfold out0_C_1 kernelRun0_C
  dsimp only
  sl_unfold_words
  have e0 := pay2_apply _ _ j x n ((load0 h4 xs j).trans hs.sum) fun k => (loadW h2 x0 k j).trans (hx k)
  have e1 := pay3_apply _ _ j x n ((load1 h4 xs j).trans hs.sq) fun k => (loadW h2 x0 k j).trans (hx k)
  rw [hn] at e0 e1
  constructor
  · exact (row0_apply _ _ _ _ _ j).trans (pay4_apply _ j x ((cov0 _ _ _ _ j).trans e0))
  · exact (row1_apply _ _ _ _ j).trans (pay5_apply _ _ j x ((cov0 _ _ _ _ j).trans e0) ((cov1 _ _ _ j).trans e1))

end Cert.KernelIdeal.Stats
-- ==== Proof.Val.StatsArr.lean ====
module

public import proofs.«01_k».proof.Proof.Val.StatsRun
public import Idealize.ShloMosaic.Lib.Pipeline.Value

@[expose] public section

set_option maxRecDepth 16384

noncomputable section

/-! What the statistics call leaves in its result array. -/

namespace Cert.KernelIdeal.Stats

open Idealize.ShloMosaic Idealize.ShloMosaic.TcCoe
open Cert.KernelIdeal Cert.KernelIdeal.Facts Cert.KernelIdeal.Gen Cert.KernelIdeal.R0

variable (V : (c : Dev nD) → (b : Ref sig .tc) → Buf (Elt Ideal) ((c : Thread nD τ).loc b)) (c : Dev nD)
variable (x : Fin 1024 → ℕ → ℝ)

/-- The column a step's block puts at `j`. -/
abbrev colOf (n : ℕ) (h : n < 64) (j : Fin 512) : Fin 1024 := ⟨n / 32 * 512 + j.val, by omega⟩

/-- The argument's block of a step: its rows step by step, its columns half by half. -/
theorem index_in : ∀ t : Fin cfg0.N, win0_0.index t (0 : Fin 2) = t.val % 32 ∧ win0_0.index t (1 : Fin 2) = t.val / 32 :=
  (by decide +kernel : ∀ t : Fin grid0.N, _)
/-- The result's block of a step: its columns half by half. -/
theorem index_out : ∀ t : Fin cfg0.N, win0_1.index t (0 : Fin 2) = 0 ∧ win0_1.index t (1 : Fin 2) = t.val / 32 :=
  (by decide +kernel : ∀ t : Fin grid0.N, _)

/-- A step's block of the argument, read at a row and a column. -/
theorem iblk_apply (hx : ∀ (k : Fin 32768) (j : Fin 1024), V c main_arg0 (ix2 k j) = ((x j k.val : ℝ) : EReal)) (t : Fin cfg0.N)
    (k : Fin 1024) (j : Fin 512) :
    (iblk V c 0 t : Vec Ideal S1024x512 .f32) (ix2 k j) = ((x (colOf t.val (t.isLt.trans_eq N_0) j) (1024 * (t.val % 32) + k.val) : ℝ) : EReal) := by
  have ht : t.val < 64 := t.isLt.trans_eq N_0
  obtain ⟨e0, e1⟩ := index_in t
  have hb : ((cfg0.win 0).blk t).view.emb (ix2 k j : S1024x512.Idx) = ix2 ⟨1024 * (t.val % 32) + k.val, by omega⟩ (colOf t.val ht j) := by
    refine funext fun a => Fin.ext ?_
    match a with
    | ⟨0, _⟩ => show win0_0.index t (0 : Fin 2) * 1024 + 1 * k.val = 1024 * (t.val % 32) + k.val; rw [e0]; omega
    | ⟨1, _⟩ => show win0_0.index t (1 : Fin 2) * 512 + 1 * j.val = t.val / 32 * 512 + j.val; rw [e1]; omega
  have e : (iblk V c 0 t : Vec Ideal S1024x512 .f32) (ix2 k j) = V c main_arg0 (((cfg0.win 0).blk t).view.emb (ix2 k j : S1024x512.Idx)) := rfl
  rw [e, hb]
  exact hx _ _

/-- A half's first step leaves the sums of its rows. -/
theorem sums_first (hx : ∀ (k : Fin 32768) (j : Fin 1024), V c main_arg0 (ix2 k j) = ((x j k.val : ℝ) : EReal)) (j : Fin 512)
    (t : Fin cfg0.N) (h0 : t.val % 32 = 0) (h1 : ¬t.val % 32 = 31) :
    Sums (x (colOf t.val (t.isLt.trans_eq N_0) j)) (0 + 1024) (outsAt0 V c t.val t.isLt).2 j := by
  have hb : ∀ k : Fin 1024, (iblk V c 0 t : Vec Ideal S1024x512 .f32) (ix2 k j) = ((x (colOf t.val (t.isLt.trans_eq N_0) j) (0 + k.val) : ℝ) : EReal) := by
    intro k
    rw [iblk_apply V c x hx t k j, h0, Nat.mul_zero]
  rw [outsAt0_A V c t h0 h1]
  dsimp only
  exact sums_A c _ _ _ _ _ _ _ _ _ _ hb

/-- A middle step adds its rows to the sums before it. -/
theorem sums_step (hx : ∀ (k : Fin 32768) (j : Fin 1024), V c main_arg0 (ix2 k j) = ((x j k.val : ℝ) : EReal)) (j : Fin 512)
    (t : Fin cfg0.N) (h0 : ¬t.val % 32 = 0) (h1 : ¬t.val % 32 = 31)
    (hp : Sums (x (colOf t.val (t.isLt.trans_eq N_0) j)) (1024 * (t.val % 32)) (outsAt0 V c (t.val - 1) (Nat.lt_of_le_of_lt (Nat.sub_le _ _) t.isLt)).2 j) :
    Sums (x (colOf t.val (t.isLt.trans_eq N_0) j)) (1024 * (t.val % 32) + 1024) (outsAt0 V c t.val t.isLt).2 j := by
  rw [outsAt0_B V c t h0 h1]
  dsimp only
  exact sums_B c _ _ _ _ _ _ _ _ _ _ _ hp fun k => iblk_apply V c x hx t k j

/-- A column is the same at two steps of one half. -/
theorem colOf_eq {n m : ℕ} (hn : n < 64) (hm : m < 64) (h : n / 32 = m / 32) (j : Fin 512) : colOf n hn j = colOf m hm j :=
  Fin.ext (congrArg (· * 512 + j.val) h)

/-- After a step that is not a half's last, the two sums are those of the half's rows so far. -/
theorem sums_at (hx : ∀ (k : Fin 32768) (j : Fin 1024), V c main_arg0 (ix2 k j) = ((x j k.val : ℝ) : EReal)) (j : Fin 512) (r : ℕ) :
    ∀ (n : ℕ) (hn : n < cfg0.N), n % 32 = r → ¬r = 31 →
      Sums (x (colOf n (hn.trans_eq N_0) j)) (1024 * r + 1024) (outsAt0 V c n hn).2 j := by
  induction r with
  | zero =>
    intro n hn h0 h1
    exact sums_first V c x hx j ⟨n, hn⟩ h0 (by dsimp only; omega)
  | succ r ih =>
    intro n hn h0 h1
    have hN : n < 64 := hn.trans_eq N_0
    have hp := ih (n - 1) (Nat.lt_of_le_of_lt (Nat.sub_le _ _) hn) (by omega) (by omega)
    rw [colOf_eq (m := n) _ hN (by omega), show 1024 * r + 1024 = 1024 * (n % 32) by omega] at hp
    have hs := sums_step V c x hx j ⟨n, hn⟩ (by dsimp only; omega) (by dsimp only; omega) hp
    rw [← h0]
    exact hs

/-- After a half's last step, the block holds the means and the standard deviations. -/
theorem out_at (hx : ∀ (k : Fin 32768) (j : Fin 1024), V c main_arg0 (ix2 k j) = ((x j k.val : ℝ) : EReal)) (j : Fin 512)
    (t : Fin cfg0.N) (h1 : t.val % 32 = 31) :
    (outsAt0 V c t.val t.isLt).1 (ix2 0 j) = ((Cert.Spec.mean0 (x (colOf t.val (t.isLt.trans_eq N_0) j)) : ℝ) : EReal)
      ∧ (outsAt0 V c t.val t.isLt).1 (ix2 1 j) = ((Cert.Spec.std0 (x (colOf t.val (t.isLt.trans_eq N_0) j)) : ℝ) : EReal) := by
  have ht : t.val < 64 := t.isLt.trans_eq N_0
  have hp := sums_at V c x hx j 30 (t.val - 1) (Nat.lt_of_le_of_lt (Nat.sub_le _ _) t.isLt) (by omega) (by omega)
  rw [colOf_eq (m := t.val) _ ht (by omega), show 1024 * 30 + 1024 = 1024 * (t.val % 32) by omega] at hp
  rw [outsAt0_C V c t (by omega) h1]
  dsimp only
  exact out_C c _ _ _ _ _ _ _ _ _ _ _ hp (by omega) fun k => iblk_apply V c x hx t k j

/-- The result array: row 0 the means, row 1 the standard deviations. -/
def stats : Vec Ideal S2x1024 .f32 := fun i =>
  ((if (i 0).val = 0 then Cert.Spec.mean0 (x (i 1)) else Cert.Spec.std0 (x (i 1)) : ℝ) : EReal)

/-- A half's last step writes its block of the result array. -/
theorem flushed_eq (hx : ∀ (k : Fin 32768) (j : Fin 1024), V c main_arg0 (ix2 k j) = ((x j k.val : ℝ) : EReal)) (t : Fin cfg0.N)
    (hf : (cfg0.win 1).flush t = true) : (dat V c).flushed 1 t = ((cfg0.win 1).blk t).view.read (Elt Ideal) (stats x) := by
  have ht : t.val < 64 := t.isLt.trans_eq N_0
  have h1 : t.val % 32 = 31 := (flush0_1 t).mp hf
  obtain ⟨e0, e1⟩ := index_out t
  show (cfg0.win 1).cut (grid0.coords t) ((dat V c).after 1 t) = _
  rw [after0_1]
  have key : ∀ y : S2x512.Idx, (outsAt0 V c t.val t.isLt).1 y = stats x (((cfg0.win 1).blk t).view.emb y) := by
    intro y
    obtain ⟨a, j, rfl⟩ : ∃ (a : Fin 2) (j : Fin 512), y = ix2 a j := ⟨y 0, y 1, eq_ix2 y⟩
    have hb : ((cfg0.win 1).blk t).view.emb (ix2 a j : S2x512.Idx) = ix2 a (colOf t.val ht j) := by
      refine funext fun b => Fin.ext ?_
      match b with
      | ⟨0, _⟩ => show win0_1.index t (0 : Fin 2) * 2 + 1 * a.val = a.val; rw [e0]; omega
      | ⟨1, _⟩ => show win0_1.index t (1 : Fin 2) * 512 + 1 * j.val = t.val / 32 * 512 + j.val; rw [e1]; omega
    rw [hb]
    fin_cases a
    · exact (out_at V c x hx j t h1).1
    · exact (out_at V c x hx j t h1).2
  funext y
  exact key y

/-- Every place of the result array is written by some half's last step. -/
theorem covered (i : S2x1024.Idx) : ∃ t : Fin cfg0.N, (cfg0.win 1).flush t = true ∧ i ∈ ((cfg0.win 1).blk t).view.set := by
  have h0 : (i 0).val < 2 := (i 0).isLt
  have h1 : (i 1).val < 1024 := (i 1).isLt
  have hp : 32 * ((i 1).val / 512) + 31 < cfg0.N := lt_of_lt_of_eq (by omega) N_0.symm
  obtain ⟨e0, e1⟩ := index_out ⟨_, hp⟩
  refine ⟨⟨_, hp⟩, (flush0_1 _).mpr (by dsimp only; omega), ?_⟩
  show i ∈ ((View.whole main_v0).slice (win0_1.rect (⟨_, hp⟩ : Fin cfg0.N))).set
  rw [View.set_slice_whole, Rect.mem_set_unit]
  intro a
  match a with
  | ⟨0, _⟩ =>
    show win0_1.index _ (0 : Fin 2) * 2 ≤ (i 0).val ∧ (i 0).val < win0_1.index _ (0 : Fin 2) * 2 + 2
    rw [e0]; omega
  | ⟨1, _⟩ =>
    show win0_1.index _ (1 : Fin 2) * 512 ≤ (i 1).val ∧ (i 1).val < win0_1.index _ (1 : Fin 2) * 512 + 512
    rw [e1]; dsimp only; omega

/-- The statistics call leaves every column's mean and standard deviation. -/
theorem final (hx : ∀ (k : Fin 32768) (j : Fin 1024), V c main_arg0 (ix2 k j) = ((x j k.val : ℝ) : EReal)) :
    (dat V c).arrAt 1 cfg0.N = stats x :=
  (dat V c).arrAt_eq_of_cover 1 _ (fun t hf => flushed_eq V c x hx t hf) covered

end Cert.KernelIdeal.Stats
-- ==== Proof.Val.ScanArr.lean ====
module

public import proofs.«01_k».proof.Proof.Val.ScanRun
public import proofs.«01_k».proof.Proof.Val.StatsArr

@[expose] public section

set_option maxRecDepth 16384

noncomputable section

/-! What the scan call leaves in its two result arrays. -/

namespace Cert.KernelIdeal.Scan

open Idealize.ShloMosaic Idealize.ShloMosaic.TcCoe
open Cert.KernelIdeal Cert.KernelIdeal.Facts Cert.KernelIdeal.Gen Cert.KernelIdeal.R1 Cert.KernelIdeal.Block

variable (V : (c : Dev nD) → (b : Ref sig .tc) → Buf (Elt Ideal) ((c : Thread nD τ).loc b)) (c : Dev nD)
variable (x : Fin 1024 → ℕ → ℝ)

/-- What the scan call is entered with: the argument's columns, their statistics and the four tables. -/
structure Entry : Prop where
  arg : ∀ (k : Fin 32768) (j : Fin 1024), V c main_arg0 (ix2 k j) = ((x j k.val : ℝ) : EReal)
  stats : V c main_v0 = Stats.stats x
  l₁ : V c main_v18 = L₁
  l₂ : V c main_v25 = L₂
  p₁ : V c main_v36 = P₁
  p₂ : V c main_v37 = P₂
  pos : ∀ j, 0 < Cert.Spec.std0 (x j)

/-- The column a step's block puts at `j`. -/
abbrev colOf (n : ℕ) (h : n < 128) (j : Fin 512) : Fin 1024 := ⟨n / 64 * 512 + j.val, by omega⟩

/-- A column is the same at two steps of one half. -/
theorem colOf_eq {n m : ℕ} (hn : n < 128) (hm : m < 128) (h : n / 64 = m / 64) (j : Fin 512) : colOf n hn j = colOf m hm j :=
  Fin.ext (congrArg (· * 512 + j.val) h)

/-- The argument's block of a step. -/
theorem index0 : ∀ t : Fin cfg1.N, win1_0.index t (0 : Fin 2) = t.val % 64 ∧ win1_0.index t (1 : Fin 2) = t.val / 64 :=
  (by decide +kernel : ∀ t : Fin grid1.N, _)
/-- The statistics' block of a step. -/
theorem index1 : ∀ t : Fin cfg1.N, win1_1.index t (0 : Fin 2) = 0 ∧ win1_1.index t (1 : Fin 2) = t.val / 64 :=
  (by decide +kernel : ∀ t : Fin grid1.N, _)
/-- The running mean's table of rows is one block. -/
theorem index2 : ∀ t : Fin cfg1.N, win1_2.index t (0 : Fin 2) = 0 ∧ win1_2.index t (1 : Fin 2) = 0 :=
  (by decide +kernel : ∀ t : Fin grid1.N, _)
/-- The running variance's table of rows is one block. -/
theorem index3 : ∀ t : Fin cfg1.N, win1_3.index t (0 : Fin 2) = 0 ∧ win1_3.index t (1 : Fin 2) = 0 :=
  (by decide +kernel : ∀ t : Fin grid1.N, _)
/-- The running mean's table of the state before is one block. -/
theorem index4 : ∀ t : Fin cfg1.N, win1_4.index t (0 : Fin 2) = 0 ∧ win1_4.index t (1 : Fin 2) = 0 :=
  (by decide +kernel : ∀ t : Fin grid1.N, _)
/-- The running variance's table of the state before is one block. -/
theorem index5 : ∀ t : Fin cfg1.N, win1_5.index t (0 : Fin 2) = 0 ∧ win1_5.index t (1 : Fin 2) = 0 :=
  (by decide +kernel : ∀ t : Fin grid1.N, _)
/-- The normalized rows' block of a step. -/
theorem index6 : ∀ t : Fin cfg1.N, win1_6.index t (0 : Fin 2) = t.val % 64 ∧ win1_6.index t (1 : Fin 2) = t.val / 64 :=
  (by decide +kernel : ∀ t : Fin grid1.N, _)
/-- The states' block of a step. -/
theorem index7 : ∀ t : Fin cfg1.N, win1_7.index t (0 : Fin 3) = t.val % 64 ∧ win1_7.index t (1 : Fin 3) = 0 ∧ win1_7.index t (2 : Fin 3) = t.val / 64 :=
  (by decide +kernel : ∀ t : Fin grid1.N, _)

variable {V c x}

/-- A step's block of the argument, read at a row and a column. -/
theorem arg_apply (h : Entry V c x) (t : Fin cfg1.N) (k : Fin 512) (j : Fin 512) :
    (iblk V c 0 t : Vec Ideal S512x512 .f32) (ix2 k j) = ((x (colOf t.val (t.isLt.trans_eq N_1) j) (512 * (t.val % 64) + k.val) : ℝ) : EReal) := by
  have ht : t.val < 128 := t.isLt.trans_eq N_1
  obtain ⟨e0, e1⟩ := index0 t
  have hb : ((cfg1.win 0).blk t).view.emb (ix2 k j : S512x512.Idx) = ix2 ⟨512 * (t.val % 64) + k.val, by omega⟩ (colOf t.val ht j) := by
    refine funext fun a => Fin.ext ?_
    match a with
    | ⟨0, _⟩ => show win1_0.index t (0 : Fin 2) * 512 + 1 * k.val = 512 * (t.val % 64) + k.val; rw [e0]; omega
    | ⟨1, _⟩ => show win1_0.index t (1 : Fin 2) * 512 + 1 * j.val = t.val / 64 * 512 + j.val; rw [e1]; omega
  have e : (iblk V c 0 t : Vec Ideal S512x512 .f32) (ix2 k j) = V c main_arg0 (((cfg1.win 0).blk t).view.emb (ix2 k j : S512x512.Idx)) := rfl
  rw [e, hb]
  exact h.arg _ _

/-- A step's block of the statistics, read at a row and a column. -/
theorem stats_apply (h : Entry V c x) (t : Fin cfg1.N) (a : Fin 2) (j : Fin 512) :
    (iblk V c 1 t : Vec Ideal S2x512 .f32) (ix2 a j) = Stats.stats x (ix2 a (colOf t.val (t.isLt.trans_eq N_1) j)) := by
  have ht : t.val < 128 := t.isLt.trans_eq N_1
  obtain ⟨e0, e1⟩ := index1 t
  have hb : ((cfg1.win 1).blk t).view.emb (ix2 a j : S2x512.Idx) = ix2 a (colOf t.val ht j) := by
    refine funext fun b => Fin.ext ?_
    match b with
    | ⟨0, _⟩ => show win1_1.index t (0 : Fin 2) * 2 + 1 * a.val = a.val; rw [e0]; omega
    | ⟨1, _⟩ => show win1_1.index t (1 : Fin 2) * 512 + 1 * j.val = t.val / 64 * 512 + j.val; rw [e1]; omega
  have e : (iblk V c 1 t : Vec Ideal S2x512 .f32) (ix2 a j) = V c main_v0 (((cfg1.win 1).blk t).view.emb (ix2 a j : S2x512.Idx)) := rfl
  rw [e, hb, h.stats]

/-- The running mean's table of rows, at every step. -/
theorem table2 (h : Entry V c x) (t : Fin cfg1.N) : (iblk V c 2 t : Vec Ideal S256x256 .f32) = L₁ := by
  obtain ⟨e0, e1⟩ := index2 t
  rw [← h.l₁]
  funext y
  refine congrArg (V c main_v18) (funext fun a => Fin.ext ?_)
  match a with
  | ⟨0, _⟩ => show win1_2.index t (0 : Fin 2) * 256 + 1 * (y 0).val = (y 0).val; rw [e0]; omega
  | ⟨1, _⟩ => show win1_2.index t (1 : Fin 2) * 256 + 1 * (y 1).val = (y 1).val; rw [e1]; omega
/-- The running variance's table of rows, at every step. -/
theorem table3 (h : Entry V c x) (t : Fin cfg1.N) : (iblk V c 3 t : Vec Ideal S256x256 .f32) = L₂ := by
  obtain ⟨e0, e1⟩ := index3 t
  rw [← h.l₂]
  funext y
  refine congrArg (V c main_v25) (funext fun a => Fin.ext ?_)
  match a with
  | ⟨0, _⟩ => show win1_3.index t (0 : Fin 2) * 256 + 1 * (y 0).val = (y 0).val; rw [e0]; omega
  | ⟨1, _⟩ => show win1_3.index t (1 : Fin 2) * 256 + 1 * (y 1).val = (y 1).val; rw [e1]; omega
/-- The running mean's table of the state before, at every step. -/
theorem table4 (h : Entry V c x) (t : Fin cfg1.N) : (iblk V c 4 t : Vec Ideal S256x1 .f32) = P₁ := by
  obtain ⟨e0, e1⟩ := index4 t
  rw [← h.p₁]
  funext y
  refine congrArg (V c main_v36) (funext fun a => Fin.ext ?_)
  match a with
  | ⟨0, _⟩ => show win1_4.index t (0 : Fin 2) * 256 + 1 * (y 0).val = (y 0).val; rw [e0]; omega
  | ⟨1, _⟩ => show win1_4.index t (1 : Fin 2) * 1 + 1 * (y 1).val = (y 1).val; rw [e1]; omega
/-- The running variance's table of the state before, at every step. -/
theorem table5 (h : Entry V c x) (t : Fin cfg1.N) : (iblk V c 5 t : Vec Ideal S256x1 .f32) = P₂ := by
  obtain ⟨e0, e1⟩ := index5 t
  rw [← h.p₂]
  funext y
  refine congrArg (V c main_v37) (funext fun a => Fin.ext ?_)
  match a with
  | ⟨0, _⟩ => show win1_5.index t (0 : Fin 2) * 256 + 1 * (y 0).val = (y 0).val; rw [e0]; omega
  | ⟨1, _⟩ => show win1_5.index t (1 : Fin 2) * 1 + 1 * (y 1).val = (y 1).val; rw [e1]; omega

/-- What a step of 512 rows from row `n` leaves of a column. -/
structure Done (x : ℕ → ℝ) (n : ℕ) (o : Vec Ideal S512x512 .f32 × Vec Ideal S512x2x512 .f32 × Vec Ideal S1x512 .f32 × Vec Ideal S1x512 .f32) (j : Fin 512) : Prop where
  norm : ∀ i : Fin 512, o.1 (ix2 i j) = ((Cert.Spec.normAt x (n + i.val) : ℝ) : EReal)
  mu : ∀ i : Fin 512, o.2.1 (ix3 i 0 j) = ((Cert.Spec.muAt x (n + i.val + 1) : ℝ) : EReal)
  var : ∀ i : Fin 512, o.2.1 (ix3 i 1 j) = ((Cert.Spec.varAt x (n + i.val + 1) : ℝ) : EReal)
  keptMu : o.2.2.1 (ix2 0 j) = ((Cert.Spec.muAt x (n + 512) : ℝ) : EReal)
  keptVar : o.2.2.2 (ix2 0 j) = ((Cert.Spec.varAt x (n + 512) : ℝ) : EReal)

/-- A half's first step. -/
theorem done_first (h : Entry V c x) (j : Fin 512) (t : Fin cfg1.N) (h0 : t.val % 64 = 0) :
    Done (x (colOf t.val (t.isLt.trans_eq N_1) j)) (512 * (t.val % 64)) (outsAt1 V c t.val t.isLt) j := by
  have hf : From (x (colOf t.val (t.isLt.trans_eq N_1) j)) (512 * (t.val % 64)) (row 0 (iblk V c 1 t)) (row 1 (iblk V c 1 t)) (iblk V c 0 t) j := by
    refine ⟨?_, ?_, fun k => arg_apply h t k j⟩
    · rw [h0]; exact stats_apply h t 0 j
    · rw [h0]; exact stats_apply h t 1 j
  rw [outsAt1_A V c t h0, table2 h, table3 h, table4 h, table5 h, out6_A, out7_A, kept0_A, kept1_A]
  constructor <;> dsimp only
  · exact fun i => norm_apply hf (h.pos _) _ _ i
  · exact fun i => mu_apply hf _ _ i
  · exact fun i => var_apply hf _ _ i
  · exact kept0_apply hf
  · exact kept1_apply hf

/-- A later step, from what the one before kept. -/
theorem done_step (h : Entry V c x) (j : Fin 512) (t : Fin cfg1.N) (h0 : ¬t.val % 64 = 0) (n : ℕ) (hn : n + 512 = 512 * (t.val % 64))
    (hp : Done (x (colOf t.val (t.isLt.trans_eq N_1) j)) n (outsAt1 V c (t.val - 1) (Nat.lt_of_le_of_lt (Nat.sub_le _ _) t.isLt)) j) :
    Done (x (colOf t.val (t.isLt.trans_eq N_1) j)) (512 * (t.val % 64)) (outsAt1 V c t.val t.isLt) j := by
  have hf : From (x (colOf t.val (t.isLt.trans_eq N_1) j)) (512 * (t.val % 64))
      (outsAt1 V c (t.val - 1) (Nat.lt_of_le_of_lt (Nat.sub_le _ _) t.isLt)).2.2.1
      (outsAt1 V c (t.val - 1) (Nat.lt_of_le_of_lt (Nat.sub_le _ _) t.isLt)).2.2.2 (iblk V c 0 t) j := by
    refine ⟨?_, ?_, fun k => arg_apply h t k j⟩
    · rw [← hn]; exact hp.keptMu
    · rw [← hn]; exact hp.keptVar
  rw [outsAt1_B V c t h0, table2 h, table3 h, table4 h, table5 h, out6_B, out7_B, kept0_B, kept1_B]
  constructor <;> dsimp only
  · exact fun i => norm_apply hf (h.pos _) _ _ i
  · exact fun i => mu_apply hf _ _ i
  · exact fun i => var_apply hf _ _ i
  · exact kept0_apply hf
  · exact kept1_apply hf

/-- Every step leaves its 512 rows of the recurrence. -/
theorem done_at (h : Entry V c x) (j : Fin 512) (r : ℕ) :
    ∀ (n : ℕ) (hn : n < cfg1.N), n % 64 = r → Done (x (colOf n (hn.trans_eq N_1) j)) (512 * (n % 64)) (outsAt1 V c n hn) j := by
  induction r with
  | zero => exact fun n hn h0 => done_first h j ⟨n, hn⟩ h0
  | succ r ih =>
    intro n hn h0
    have hN : n < 128 := hn.trans_eq N_1
    have hp := ih (n - 1) (Nat.lt_of_le_of_lt (Nat.sub_le _ _) hn) (by omega)
    rw [colOf_eq (m := n) _ hN (by omega)] at hp
    exact done_step h j ⟨n, hn⟩ (by dsimp only; omega) _ (by dsimp only; omega) hp

variable (x) in
/-- The normalized rows. -/
abbrev normArr : Vec Ideal S32768x1024 .f32 := Cert.Spec.resNorm x
variable (x) in
/-- The states, the means at 0 and the variances at 1 of the middle axis. -/
def infoArr : Vec Ideal S32768x2x1024 .f32 := fun i =>
  ((if (i 1).val = 0 then Cert.Spec.muAt (x (i 2)) ((i 0).val + 1) else Cert.Spec.varAt (x (i 2)) ((i 0).val + 1) : ℝ) : EReal)

/-- A step writes its block of the normalized rows. -/
theorem flushed6 (h : Entry V c x) (t : Fin cfg1.N) : (dat V c).flushed 6 t = ((cfg1.win 6).blk t).view.read (Elt Ideal) (normArr x) := by
  have ht : t.val < 128 := t.isLt.trans_eq N_1
  obtain ⟨e0, e1⟩ := index6 t
  show (cfg1.win 6).cut (grid1.coords t) ((dat V c).after 6 t) = _
  rw [after1_6]
  have key : ∀ y : S512x512.Idx, (outsAt1 V c t.val t.isLt).1 y = normArr x (((cfg1.win 6).blk t).view.emb y) := by
    intro y
    obtain ⟨k, j, rfl⟩ : ∃ (k j : Fin 512), y = ix2 k j := ⟨y 0, y 1, eq_ix2 y⟩
    have hb : ((cfg1.win 6).blk t).view.emb (ix2 k j : S512x512.Idx) = ix2 ⟨512 * (t.val % 64) + k.val, by omega⟩ (colOf t.val ht j) := by
      refine funext fun a => Fin.ext ?_
      match a with
      | ⟨0, _⟩ => show win1_6.index t (0 : Fin 2) * 512 + 1 * k.val = 512 * (t.val % 64) + k.val; rw [e0]; omega
      | ⟨1, _⟩ => show win1_6.index t (1 : Fin 2) * 512 + 1 * j.val = t.val / 64 * 512 + j.val; rw [e1]; omega
    rw [hb]
    exact (done_at h j _ t.val t.isLt rfl).norm k
  funext y
  exact key y

/-- A step writes its block of the states. -/
theorem flushed7 (h : Entry V c x) (t : Fin cfg1.N) : (dat V c).flushed 7 t = ((cfg1.win 7).blk t).view.read (Elt Ideal) (infoArr x) := by
  have ht : t.val < 128 := t.isLt.trans_eq N_1
  obtain ⟨e0, e1, e2⟩ := index7 t
  show (cfg1.win 7).cut (grid1.coords t) ((dat V c).after 7 t) = _
  rw [after1_7]
  have key : ∀ y : S512x2x512.Idx, (outsAt1 V c t.val t.isLt).2.1 y = infoArr x (((cfg1.win 7).blk t).view.emb y) := by
    intro y
    obtain ⟨k, a, j, rfl⟩ : ∃ (k : Fin 512) (a : Fin 2) (j : Fin 512), y = ix3 k a j := ⟨y 0, y 1, y 2, eq_ix3 y⟩
    have hb : ((cfg1.win 7).blk t).view.emb (ix3 k a j : S512x2x512.Idx) = ix3 ⟨512 * (t.val % 64) + k.val, by omega⟩ a (colOf t.val ht j) := by
      refine funext fun b => Fin.ext ?_
      match b with
      | ⟨0, _⟩ => show win1_7.index t (0 : Fin 3) * 512 + 1 * k.val = 512 * (t.val % 64) + k.val; rw [e0]; omega
      | ⟨1, _⟩ => show win1_7.index t (1 : Fin 3) * 2 + 1 * a.val = a.val; rw [e1]; omega
      | ⟨2, _⟩ => show win1_7.index t (2 : Fin 3) * 512 + 1 * j.val = t.val / 64 * 512 + j.val; rw [e2]; omega
    rw [hb]
    fin_cases a
    · exact (done_at h j _ t.val t.isLt rfl).mu k
    · exact (done_at h j _ t.val t.isLt rfl).var k
  funext y
  exact key y

/-- Every place of the normalized rows is written by some step. -/
theorem covered6 (i : S32768x1024.Idx) : ∃ t : Fin cfg1.N, (cfg1.win 6).flush t = true ∧ i ∈ ((cfg1.win 6).blk t).view.set := by
  have h0 : (i 0).val < 32768 := (i 0).isLt
  have h1 : (i 1).val < 1024 := (i 1).isLt
  have hp : 64 * ((i 1).val / 512) + (i 0).val / 512 < cfg1.N := lt_of_lt_of_eq (by omega) N_1.symm
  obtain ⟨e0, e1⟩ := index6 ⟨_, hp⟩
  dsimp only at e0 e1
  refine ⟨⟨_, hp⟩, flush1_6 _, ?_⟩
  show i ∈ ((View.whole main_v38_0).slice (win1_6.rect (⟨_, hp⟩ : Fin cfg1.N))).set
  rw [View.set_slice_whole, Rect.mem_set_unit]
  intro a
  match a with
  | ⟨0, _⟩ =>
    show win1_6.index _ (0 : Fin 2) * 512 ≤ (i 0).val ∧ (i 0).val < win1_6.index _ (0 : Fin 2) * 512 + 512
    rw [e0]; omega
  | ⟨1, _⟩ =>
    show win1_6.index _ (1 : Fin 2) * 512 ≤ (i 1).val ∧ (i 1).val < win1_6.index _ (1 : Fin 2) * 512 + 512
    rw [e1]; omega

/-- Every place of the states is written by some step. -/
theorem covered7 (i : S32768x2x1024.Idx) : ∃ t : Fin cfg1.N, (cfg1.win 7).flush t = true ∧ i ∈ ((cfg1.win 7).blk t).view.set := by
  have h0 : (i 0).val < 32768 := (i 0).isLt
  have h1 : (i 1).val < 2 := (i 1).isLt
  have h2 : (i 2).val < 1024 := (i 2).isLt
  have hp : 64 * ((i 2).val / 512) + (i 0).val / 512 < cfg1.N := lt_of_lt_of_eq (by omega) N_1.symm
  obtain ⟨e0, e1, e2⟩ := index7 ⟨_, hp⟩
  dsimp only at e0 e1 e2
  refine ⟨⟨_, hp⟩, flush1_7 _, ?_⟩
  show i ∈ ((View.whole main_v38_1).slice (win1_7.rect (⟨_, hp⟩ : Fin cfg1.N))).set
  rw [View.set_slice_whole, Rect.mem_set_unit]
  intro a
  match a with
  | ⟨0, _⟩ =>
    show win1_7.index _ (0 : Fin 3) * 512 ≤ (i 0).val ∧ (i 0).val < win1_7.index _ (0 : Fin 3) * 512 + 512
    rw [e0]; omega
  | ⟨1, _⟩ =>
    show win1_7.index _ (1 : Fin 3) * 2 ≤ (i 1).val ∧ (i 1).val < win1_7.index _ (1 : Fin 3) * 2 + 2
    rw [e1]; omega
  | ⟨2, _⟩ =>
    show win1_7.index _ (2 : Fin 3) * 512 ≤ (i 2).val ∧ (i 2).val < win1_7.index _ (2 : Fin 3) * 512 + 512
    rw [e2]; omega

/-- The scan call leaves the normalized rows. -/
theorem final6 (h : Entry V c x) : (dat V c).arrAt 6 cfg1.N = normArr x :=
  (dat V c).arrAt_eq_of_cover 6 _ (fun t _ => flushed6 h t) covered6

/-- The scan call leaves the states. -/
theorem final7 (h : Entry V c x) : (dat V c).arrAt 7 cfg1.N = infoArr x :=
  (dat V c).arrAt_eq_of_cover 7 _ (fun t _ => flushed7 h t) covered7

end Cert.KernelIdeal.Scan
-- ==== Proof.Val.KernelResult.lean ====
module

public import proofs.«01_k».proof.Proof.Run
public import proofs.«01_k».proof.Proof.Val.ScanArr

@[expose] public section

set_option maxRecDepth 16384

noncomputable section

/-! The kernel's two results. -/

namespace Cert.KernelIdeal.Whole

open Idealize.ShloMosaic Idealize.ShloMosaic.TcCoe Idealize.SL.Sem Idealize.ShloMosaic.StableHlo
open Cert.KernelIdeal Cert.KernelIdeal.Facts Cert.KernelIdeal.Gen

variable (m : (ℓ : Loc nD τ sig) → Buf (Elt Ideal) ℓ) (c : Dev nD) (x : Fin 1024 → ℕ → ℝ)

/-- The argument of a core. -/
abbrev argK : FVec Ideal S32768x1024 .f32 := m ((c.tc : Thread nD τ).loc main_arg0)

/-- The statistics call leaves the columns' statistics. -/
theorem X1_stats (hx : ∀ (k : Fin 32768) (j : Fin 1024), argK m c (ix2 k j) = ((x j k.val : ℝ) : EReal)) :
    X1 m c (Proc.devRef .tc main_v0) = Stats.stats x :=
  (Pipeline.afterRegion_arr (D0 m c) (X0 m c) launch0.win.arr_inj 1).trans
    (Stats.final (fun c b => X0 m c (Proc.devRef .tc b)) c x hx)

/-- What the scan call is entered with. -/
theorem entry (hx : ∀ (k : Fin 32768) (j : Fin 1024), argK m c (ix2 k j) = ((x j k.val : ℝ) : EReal))
    (hs : ∀ j, 0 < Cert.Spec.std0 (x j)) : Scan.Entry (fun c b => X6 m c (Proc.devRef .tc b)) c x where
  arg := fun k j => (congrFun (X6_arg m c) (ix2 k j)).trans (hx k j)
  stats := (Tables.host_v0 (X1 m c)).trans (X1_stats m c x hx)
  l₁ := Tables.host_v18 (X1 m c)
  l₂ := Tables.host_v25 (X1 m c)
  p₁ := Tables.host_v36 (X1 m c)
  p₂ := Tables.host_v37 (X1 m c)
  pos := hs

/-- The last host operation leaves the first result as it was. -/
theorem X8_norm : X8 m c (Proc.devRef .tc main_v38_0) = X7 m c (Proc.devRef .tc main_v38_0) :=
  StableHlo.after_of_writes_sub hostOps2 _ hostOps2_writes (by decide)

/-- The last host operation reshapes the states. -/
theorem X8_info : X8 m c (Proc.devRef .tc main_v39)
    = shapeCast S32768x2048 (X7 m c (Proc.devRef .tc main_v38_1)) shapeCasts_S32768x2x1024_S32768x2048 := by
  unfold X8
  after_reads_simp
  rfl

/-- The states reshaped: the means in the left half, the variances in the right. -/
theorem info_reshape : shapeCast S32768x2048 (Scan.infoArr x) shapeCasts_S32768x2x1024_S32768x2048
    = (Cert.Spec.resInfo x : FVec Ideal S32768x2048 .f32) := by
  funext i
  obtain ⟨a, b, rfl⟩ : ∃ (a : Fin 32768) (b : Fin 2048), i = ix2 a b := ⟨i 0, i 1, eq_ix2 i⟩
  have e : shapeCast S32768x2048 (Scan.infoArr x) shapeCasts_S32768x2x1024_S32768x2048 (ix2 a b)
      = Scan.infoArr x (ix3 a ⟨b.val / 1024, by omega⟩ ⟨b.val % 1024, by omega⟩) := by
    pointwise
  rw [e]
  unfold Cert.Spec.resInfo Scan.infoArr
  by_cases hb : b.val < 1024
  · have h0 : b.val / 1024 = 0 := by omega
    have h1 : b.val % 1024 = b.val := by omega
    simp [ix2, ix3, hb, h0, h1]
  · have h0 : ¬ b.val / 1024 = 0 := by omega
    have h1 : b.val % 1024 = b.val - 1024 := by omega
    simp [ix2, ix3, hb, h0, h1]

/-- The kernel ends with both results at the specification's, whenever its argument's columns are real sequences of
    positive deviation. -/
theorem results (ρ : Dev nD → PrngReg) (x : Dev nD → Fin 1024 → ℕ → ℝ)
    (hx : ∀ (c : Dev nD) (k : Fin 32768) (j : Fin 1024), argK m c (ix2 k j) = ((x c j k.val : ℝ) : EReal))
    (hs : ∀ c j, 0 < Cert.Spec.std0 (x c j)) :
    θ_run (defs (F := Ideal)) (onTc (τ := τ) (main (F := Ideal))) ⟨m, fun _ => 0, ρ⟩ fun r => ∀ c : Dev nD,
      r.2.mem ((c.tc : Thread nD τ).loc main_v38_0) = (Cert.Spec.resNorm (x c) : FVec Ideal S32768x1024 .f32)
      ∧ r.2.mem ((c.tc : Thread nD τ).loc main_v39) = (Cert.Spec.resInfo (x c) : FVec Ideal S32768x2048 .f32)
      ∧ r.2.mem ((c.tc : Thread nD τ).loc main_arg0) = m ((c.tc : Thread nD τ).loc main_arg0) := by
  refine θ_run_mono (run m ρ) fun r h c => ?_
  have e := entry m c (x c) (hx c) (hs c)
  refine ⟨?_, ?_, ?_⟩
  · refine (h.1 c _ (Pipeline.devRef_mem_ucRefs (by decide))).trans ((X8_norm m c).trans ?_)
    exact (Pipeline.afterRegion_arr (D1 m c) (X6 m c) launch1.win.arr_inj 6).trans (Scan.final6 e)
  · refine (h.1 c _ (Pipeline.devRef_mem_ucRefs (by decide))).trans ((X8_info m c).trans ?_)
    rw [show X7 m c (Proc.devRef .tc main_v38_1) = Scan.infoArr (x c) from
      (Pipeline.afterRegion_arr (D1 m c) (X6 m c) launch1.win.arr_inj 7).trans (Scan.final7 e)]
    exact info_reshape (x c)
  · exact (h.1 c _ (Pipeline.devRef_mem_ucRefs (by decide))).trans (X8_arg m c)

end Cert.KernelIdeal.Whole

end
-- ==== Proof.Val.RefEntry.lean ====
module

public import proofs.«01_k».proof.Proof.Gen.ReferenceIdeal.Run
public import proofs.«01_k».proof.Proof.Val.Pre
public import Idealize.ShloMosaic.Lib.Pointwise

@[expose] public section

noncomputable section

/-! The reference's buffers at the loop's entry, at the extended reals. -/

namespace Cert.ReferenceIdeal.Value

open Idealize.ShloMosaic Idealize.ShloMosaic.TcCoe Idealize.SL.Sem Idealize.ShloMosaic.StableHlo
open Cert.ReferenceIdeal Cert.ReferenceIdeal.Facts Cert.ReferenceIdeal.Gen

variable (m : (ℓ : Loc nD τ sig) → Buf (Elt Ideal) ℓ)

/-- The argument, as a block of extended reals. -/
abbrev argX (c : Dev nD) : FVec Ideal S32768x1024 .f32 := m ((c.tc : Thread nD τ).loc main_arg0)

set_option maxRecDepth 100000 in
/-- The loop is entered with the argument itself in its first place. -/
theorem entry_v7_0 (c : Dev nD) : entryContents preI m c (Proc.devRef .tc main_v7_0) = argX m c := by
  simp only [entryContents, afterL_cons, afterL_nil]
  after_reads_simp
  rfl

set_option maxRecDepth 100000 in
/-- The loop is entered with the word of 0.01 as the mean's rate. -/
theorem entry_v7_1 (c : Dev nD) : entryContents preI m c (Proc.devRef .tc main_v7_1) = (constant S_ .f32 0x3C23D70A#32 : FVec Ideal S_ .f32) := by
  simp only [entryContents, afterL_cons, afterL_nil]
  after_reads_simp
  rfl

set_option maxRecDepth 100000 in
/-- The loop is entered with the word of 0.02 as the variance's rate. -/
theorem entry_v7_2 (c : Dev nD) : entryContents preI m c (Proc.devRef .tc main_v7_2) = (constant S_ .f32 0x3CA3D70A#32 : FVec Ideal S_ .f32) := by
  simp only [entryContents, afterL_cons, afterL_nil]
  after_reads_simp
  rfl

set_option maxRecDepth 100000 in
/-- The loop is entered with the column means as the first mean. -/
theorem entry_v7_4 (c : Dev nD) : entryContents preI m c (Proc.devRef .tc main_v7_4) =
   (Host.divf (Host.reduceAdd (argX m c) (constant S_ .f32 0x00000000#32) reducesTo_S32768x1024_S1024_d0 h_S_)
     (broadcastInDim S1024 ![] bcast_S_S1024 (constant S_ .f32 0x47000000#32)) : FVec Ideal S1024 .f32) := by
  simp only [entryContents, afterL_cons, afterL_nil]
  after_reads_simp
  rfl

/-- The argument less each column's mean, as the deviation's operations spell it. -/
abbrev centred (X : FVec Ideal S32768x1024 .f32) : FVec Ideal S32768x1024 .f32 :=
  subf X (broadcastInDim S32768x1024 ![0, 1] bcast_S1x1024_S32768x1024_0_1
    (Host.divf (broadcastInDim S1x1024 ![1] bcast_S1024_S1x1024_1
        (Host.reduceAdd X (constant S_ .f32 0x00000000#32) reducesTo_S32768x1024_S1024_d0 h_S_))
      (broadcastInDim S1x1024 ![] bcast_S_S1x1024 (constant S_ .f32 0x47000000#32))))

/-- The row count less one, as the deviation's operations spell it. -/
abbrev dof : FVec Ideal S_ .f32 :=
  subf (constant S_ .f32 0x47000000#32) (sitofp .f32 (constantI S_ 32 1#32))

/-- The deviation, as its operations spell it. -/
abbrev devOps (X : FVec Ideal S32768x1024 .f32) : FVec Ideal S1024 .f32 :=
  Host.sqrt (select (broadcastInDim S1024 ![] bcast_S_S1024 (cmpf .ogt dof (constant S_ .f32 0x00000000#32)))
    (Host.divf (Host.reduceAdd (mulf (centred X) (centred X)) (constant S_ .f32 0x00000000#32)
        reducesTo_S32768x1024_S1024_d0 h_S_)
      (broadcastInDim S1024 ![] bcast_S_S1024 dof))
    (broadcastInDim S1024 ![] bcast_S_S1024 (constant S_ .f32 0x7FC00000#32)))

set_option maxRecDepth 100000 in
/-- The running variance at the loop's entry is the deviation. -/
theorem entry_v7_5 (c : Dev nD) : entryContents preI m c (Proc.devRef .tc main_v7_5) = devOps (argX m c) := by
  simp only [entryContents, afterL_cons, afterL_nil]
  after_reads_simp
  rfl

/-- A sum over the rows, at one column. -/
theorem colSum (v : FVec Ideal S32768x1024 .f32) (j : Fin 1024) :
    Host.reduceAdd v (constant S_ .f32 0x00000000#32) reducesTo_S32768x1024_S1024_d0 h_S_ (ix1 j)
      = ∑ k : Fin 32768, v (ix2 k j) := by
  pointwise

/-- The number of degrees of freedom, as a real number. -/
theorem dof_apply (i : (S_ : Shape).Idx) : dof i = (((32768 : ℝ) - 1 : ℝ) : EReal) := by
  show Ideal.ofBits .f32 0x47000000#32 - (((1#32 : BitVec 32).toInt : ℝ) : EReal) = _
  rw [Cert.Spec.ofBits_rows, ← EReal.coe_sub]
  norm_num

variable (X : FVec Ideal S32768x1024 .f32) (x : ℕ → ℝ) (j : Fin 1024)

/-- A column of real numbers, summed and divided by the row count, is its mean. -/
theorem mean_apply (hx : ∀ k : Fin 32768, X (ix2 k j) = ((x k.val : ℝ) : EReal)) :
    Ideal.div (Host.reduceAdd X (constant S_ .f32 0x00000000#32) reducesTo_S32768x1024_S1024_d0 h_S_ (ix1 j))
        (Ideal.ofBits .f32 0x47000000#32) = ((Cert.Spec.mean 32768 x : ℝ) : EReal) := by
  rw [colSum, Finset.sum_congr rfl (fun k _ => hx k), Cert.Spec.coe_sum, Cert.Spec.ofBits_rows,
    Ideal.div_coe (by norm_num), ← EReal.coe_mul]
  simp only [Cert.Spec.mean, Nat.cast_ofNat]

/-- An entry less its column's mean. -/
theorem centred_apply (hx : ∀ k : Fin 32768, X (ix2 k j) = ((x k.val : ℝ) : EReal)) (k : Fin 32768) :
    centred X (ix2 k j) = ((x k.val - Cert.Spec.mean 32768 x : ℝ) : EReal) := by
  have e : centred X (ix2 k j) = X (ix2 k j)
      - Ideal.div (Host.reduceAdd X (constant S_ .f32 0x00000000#32) reducesTo_S32768x1024_S1024_d0 h_S_ (ix1 j))
        (Ideal.ofBits .f32 0x47000000#32) := by
    unfold centred
    rw [colSum]
    pointwise
  rw [e, mean_apply X x j hx, hx k, EReal.coe_sub]

/-- The deviation at the loop's entry, of a column of real numbers. -/
theorem devOps_apply (hx : ∀ k : Fin 32768, X (ix2 k j) = ((x k.val : ℝ) : EReal)) :
    devOps X (ix1 j) = ((Cert.Spec.std 32768 x : ℝ) : EReal) := by
  have hs : Host.reduceAdd (mulf (centred X) (centred X)) (constant S_ .f32 0x00000000#32)
      reducesTo_S32768x1024_S1024_d0 h_S_ (ix1 j) = ((Cert.Spec.dev2 32768 x : ℝ) : EReal) := by
    rw [colSum, Cert.Spec.dev2, ← Cert.Spec.coe_sum]
    refine Finset.sum_congr rfl fun k _ => ?_
    show centred X (ix2 k j) * centred X (ix2 k j) = _
    rw [centred_apply X x j hx, EReal.coe_mul]
  have e : devOps X (ix1 j) = Ideal.sqrt (Scalar.select (Ideal.cmp .ogt (dof (Shape.Idx.first h_S_)) (Ideal.ofBits .f32 0x00000000#32))
      (Ideal.div (Host.reduceAdd (mulf (centred X) (centred X)) (constant S_ .f32 0x00000000#32)
        reducesTo_S32768x1024_S1024_d0 h_S_ (ix1 j)) (dof (Shape.Idx.first h_S_))) (Ideal.ofBits .f32 0x7FC00000#32)) := rfl
  rw [e, dof_apply, hs, Ideal.div_coe (by norm_num), ← EReal.coe_mul]
  have hc : Ideal.cmp .ogt (((32768 : ℝ) - 1 : ℝ) : EReal) (Ideal.ofBits .f32 0x00000000#32) = 1#1 := by
    have h0 : (0 : EReal) < (((32768 : ℝ) - 1 : ℝ) : EReal) := by
      rw [EReal.coe_pos]; norm_num
    simp only [Ideal.cmp, Ideal.ofBits_zero_f32, h0, decide_true, BitVec.ofBool_true]
    rfl
  rw [hc]
  show Ideal.sqrt ((Cert.Spec.dev2 32768 x * (1 / ((32768 : ℝ) - 1)) : ℝ) : EReal) = _
  have hn : ¬ (Cert.Spec.dev2 32768 x * (1 / ((32768 : ℝ) - 1)) < 0) :=
    not_lt.mpr (mul_nonneg (Cert.Spec.dev2_nonneg _ _) (by norm_num))
  rw [Ideal.sqrt_coe, if_neg hn]
  simp only [Cert.Spec.std, Nat.cast_ofNat]

/-- At the loop's entry the running mean is the column's mean. -/
theorem entry_mean (m : (ℓ : Loc nD τ sig) → Buf (Elt Ideal) ℓ) (c : Dev nD)
    (hx : ∀ k : Fin 32768, argX m c (ix2 k j) = ((x k.val : ℝ) : EReal)) :
    (entryContents preI m c (Proc.devRef .tc main_v7_4) : FVec Ideal S1024 .f32) (ix1 j)
      = ((Cert.Spec.mean 32768 x : ℝ) : EReal) := by
  rw [entry_v7_4]
  exact mean_apply _ _ _ hx

/-- At the loop's entry the running variance is the column's deviation. -/
theorem entry_dev (m : (ℓ : Loc nD τ sig) → Buf (Elt Ideal) ℓ) (c : Dev nD)
    (hx : ∀ k : Fin 32768, argX m c (ix2 k j) = ((x k.val : ℝ) : EReal)) :
    (entryContents preI m c (Proc.devRef .tc main_v7_5) : FVec Ideal S1024 .f32) (ix1 j)
      = ((Cert.Spec.std 32768 x : ℝ) : EReal) := by
  rw [entry_v7_5]
  exact devOps_apply _ _ _ hx

end Cert.ReferenceIdeal.Value

end
-- ==== Proof.Val.RefLoop.lean ====
module

public import proofs.«01_k».proof.Proof.Val.RefEntry
public import Idealize.ShloMosaic.Lib.DynamicIndex
public import Idealize.ShloMosaic.Lib.WordCmp

@[expose] public section

set_option maxRecDepth 16384

noncomputable section

/-! The reference's loop at the extended reals: after `k` rows its carried buffers hold the running mean
    and variance after `k` rows, and its three results hold the first `k` rows. -/

namespace Cert.ReferenceIdeal.Value

open Idealize.ShloMosaic Idealize.ShloMosaic.TcCoe Idealize.SL.Sem Idealize.ShloMosaic.StableHlo
open Cert.ReferenceIdeal Cert.ReferenceIdeal.Facts Cert.ReferenceIdeal.Gen

/-- One row written at row `k` of a block: that row is the update's, every other row as it was. -/
theorem dus_row {α : Type} (x : S32768x1024.Idx → α) (u : S1x1024.Idx → α) (st : Fin 2 → Int)
    (h : S32768x1024.Slices (fun _ => 0) S1x1024) (k : ℕ) (hk : k < 32768) (e0 : st 0 = (k : Int)) (e1 : st 1 = ((0 : ℕ) : Int))
    (r : Fin 32768) (j : Fin 1024) :
    Host.dynamicUpdateSlice x u st h (ix2 r j) = if r.val = k then u (ix2 0 j) else x (ix2 r j) := by
  have hk' : S32768x1024.Slices ![k, 0] S1x1024 := ⟨rfl, fun a => by
    match a with
    | ⟨0, _⟩ => show k + 1 ≤ 32768; omega
    | ⟨1, _⟩ => show 0 + 1024 ≤ 1024; omega⟩
  rw [WordCmp.dynamicUpdateSlice_eq_update x u st h ![k, 0] hk' (fun a => by
    match a with
    | ⟨0, _⟩ => exact e0
    | ⟨1, _⟩ => exact e1)]
  unfold updateSlice
  by_cases hr : r.val = k
  · rw [if_pos hr, dif_pos]
    · refine congrArg u (funext fun a => ?_)
      match a with
      | ⟨0, _⟩ => exact Subsingleton.elim (α := Fin 1) _ _
      | ⟨1, _⟩ => exact Fin.ext (show j.val - 0 = j.val by omega)
    · intro a
      match a with
      | ⟨0, _⟩ => show k ≤ r.val ∧ r.val < k + 1; omega
      | ⟨1, _⟩ => show 0 ≤ j.val ∧ j.val < 0 + 1024; omega
  · rw [if_neg hr, dif_neg]
    intro hin
    have := hin 0
    have h0 : k ≤ r.val ∧ r.val < k + 1 := this
    omega

/-- Row `k` read out of a block. -/
theorem ds_row {α : Type} (x : S32768x1024.Idx → α) (st : Fin 2 → Int)
    (h : S32768x1024.Slices (fun _ => 0) S1x1024) (k : ℕ) (hk : k < 32768) (e0 : st 0 = (k : Int)) (e1 : st 1 = ((0 : ℕ) : Int))
    (j : Fin 1024) :
    Host.dynamicSlice S1x1024 x st h (ix2 0 j) = x (ix2 ⟨k, hk⟩ j) := by
  have hk' : S32768x1024.Slices ![k, 0] S1x1024 := ⟨rfl, fun a => by
    match a with
    | ⟨0, _⟩ => show k + 1 ≤ 32768; omega
    | ⟨1, _⟩ => show 0 + 1024 ≤ 1024; omega⟩
  rw [Host.dynamicSlice_eq_extractStridedSlice S1x1024 x st ![k, 0] h hk' (fun a => by
    match a with
    | ⟨0, _⟩ => exact e0
    | ⟨1, _⟩ => exact e1)]
  refine congrArg x (funext fun a => ?_)
  match a with
  | ⟨0, _⟩ => exact Fin.ext (show k + 0 = k by omega)
  | ⟨1, _⟩ => exact Fin.ext (show 0 + j.val = j.val by omega)

/-- A row's element at column `j`, as an extended real. -/
def at1 (v : FVec Ideal S1024 .f32) (j : Fin 1024) : EReal := v (ix1 j)
/-- A block's element at row `r` and column `j`, as an extended real. -/
def at2 (v : FVec Ideal S32768x1024 .f32) (r : Fin 32768) (j : Fin 1024) : EReal := v (ix2 r j)

/-- The loop's invariant after `k` rows, for an argument whose column `j` is the sequence `x j`. -/
structure Inv (X : FVec Ideal S32768x1024 .f32) (x : Fin 1024 → ℕ → ℝ) (m0 s0 : Fin 1024 → ℝ) (k : ℕ)
    (V : Valuation τ sig (Elt Ideal)) : Prop where
  arg : V (Proc.devRef .tc main_v7_0) = X
  eta : V (Proc.devRef .tc main_v7_1) = (constant S_ .f32 0x3C23D70A#32 : FVec Ideal S_ .f32)
  theta : V (Proc.devRef .tc main_v7_2) = (constant S_ .f32 0x3CA3D70A#32 : FVec Ideal S_ .f32)
  ctr : V (Proc.devRef .tc main_v7_3) = fun _ => BitVec.ofNat 32 k
  mean : ∀ j : Fin 1024, at1 (V (Proc.devRef .tc main_v7_4)) j
    = ((Cert.Spec.mu Cert.Spec.eta (x j) (m0 j) k : ℝ) : EReal)
  var : ∀ j : Fin 1024, at1 (V (Proc.devRef .tc main_v7_5)) j
    = ((Cert.Spec.var Cert.Spec.eta Cert.Spec.theta (x j) (m0 j) (s0 j) k : ℝ) : EReal)
  norms : ∀ (r : Fin 32768) (j : Fin 1024), r.val < k →
    at2 (V (Proc.devRef .tc main_v7_6)) r j
      = ((Cert.Spec.norm Cert.Spec.eta Cert.Spec.theta (x j) (m0 j) (s0 j) r.val : ℝ) : EReal)
  mus : ∀ (r : Fin 32768) (j : Fin 1024), r.val < k →
    at2 (V (Proc.devRef .tc main_v7_7)) r j
      = ((Cert.Spec.mu Cert.Spec.eta (x j) (m0 j) (r.val + 1) : ℝ) : EReal)
  vars : ∀ (r : Fin 32768) (j : Fin 1024), r.val < k →
    at2 (V (Proc.devRef .tc main_v7_8)) r j
      = ((Cert.Spec.var Cert.Spec.eta Cert.Spec.theta (x j) (m0 j) (s0 j) (r.val + 1) : ℝ) : EReal)

section Step

variable {X : FVec Ideal S32768x1024 .f32} {x : Fin 1024 → ℕ → ℝ} {m0 s0 : Fin 1024 → ℝ} {k : ℕ}
variable {V : Valuation τ sig (Elt Ideal)}

/-- The row starts the loop's body computes: the counter, and zero. -/
theorem start0 (h : Inv X x m0 s0 k V) (hk : k < 32768) :
    ((((![V (Proc.devRef .tc main_v7_3), constantI S_ 32 0#32] : Fin 2 → (⟨S_, .i32⟩ : BufTy).Contents (Elt Ideal))) 0 (Shape.Idx.first h_S_)) : BitVec 32).toInt = (k : Int) := by
  show (V (Proc.devRef .tc main_v7_3) (Shape.Idx.first h_S_) : BitVec 32).toInt = _
  rw [h.ctr]
  exact toInt_ofNat_of_lt (by omega)

/-- The row the body reads. -/
theorem row_apply (h : Inv X x m0 s0 k V) (hk : k < 32768) (j : Fin 1024)
    (hx : ∀ (k : Fin 32768) (j : Fin 1024), X (ix2 k j) = ((x j k.val : ℝ) : EReal)) :
    at1 (res_main_while0b_v9 V) j = ((x j k : ℝ) : EReal) := by
  have e : at1 (res_main_while0b_v9 V) j
      = Host.dynamicSlice S1x1024 (V (Proc.devRef .tc main_v7_0) : FVec Ideal S32768x1024 .f32)
          (fun k => (((![V (Proc.devRef .tc main_v7_3), constantI S_ 32 0#32] : Fin 2 → (⟨S_, .i32⟩ : BufTy).Contents (Elt Ideal))) k (Shape.Idx.first h_S_)).toInt)
          sliceFits_S32768x1024_S1x1024 (ix2 0 j) := by
    unfold res_main_while0b_v9 at1
    generalize Host.dynamicSlice S1x1024 _ _ _ = w
    pointwise
  rw [e, ds_row _ _ _ k hk (start0 h hk) rfl, h.arg]
  exact hx ⟨k, hk⟩ j

/-- The running mean the body computes. -/
theorem mean_step (h : Inv X x m0 s0 k V) (hk : k < 32768) (j : Fin 1024)
    (hx : ∀ (k : Fin 32768) (j : Fin 1024), X (ix2 k j) = ((x j k.val : ℝ) : EReal)) :
    at1 (res_main_while0b_v13 V) j
      = ((Cert.Spec.mu Cert.Spec.eta (x j) (m0 j) (k + 1) : ℝ) : EReal) := by
  have e : at1 (res_main_while0b_v13 V) j
      = at1 (V (Proc.devRef .tc main_v7_4)) j
        + Ideal.ofBits .f32 0x3C23D70A#32
          * (at1 (res_main_while0b_v9 V) j
            - at1 (V (Proc.devRef .tc main_v7_4)) j) := by
    unfold res_main_while0b_v13
    rw [h.eta]; rfl
  rw [e, h.mean, row_apply h hk j hx, Cert.Spec.mu_succ, Cert.Spec.ofBits_eta, ← EReal.coe_sub, ← EReal.coe_mul, ← EReal.coe_add]

/-- The difference the body computes. -/
theorem diff_step (h : Inv X x m0 s0 k V) (hk : k < 32768) (j : Fin 1024)
    (hx : ∀ (k : Fin 32768) (j : Fin 1024), X (ix2 k j) = ((x j k.val : ℝ) : EReal)) :
    at1 (res_main_while0b_v17 V) j
      = ((Cert.Spec.diff Cert.Spec.eta (x j) (m0 j) k : ℝ) : EReal) := by
  have e : at1 (res_main_while0b_v17 V) j
      = at1 (res_main_while0b_v9 V) j - at1 (res_main_while0b_v13 V) j := rfl
  rw [e, row_apply h hk j hx, mean_step h hk j hx, ← EReal.coe_sub]; rfl

/-- The running variance the body computes. -/
theorem var_step (h : Inv X x m0 s0 k V) (hk : k < 32768) (j : Fin 1024)
    (hx : ∀ (k : Fin 32768) (j : Fin 1024), X (ix2 k j) = ((x j k.val : ℝ) : EReal)) :
    at1 (res_main_while0b_v21 V) j
      = ((Cert.Spec.var Cert.Spec.eta Cert.Spec.theta (x j) (m0 j) (s0 j) (k + 1) : ℝ) : EReal) := by
  have e : at1 (res_main_while0b_v21 V) j
      = at1 (V (Proc.devRef .tc main_v7_5)) j
          * (Ideal.ofBits .f32 0x3F800000#32 - Ideal.ofBits .f32 0x3CA3D70A#32)
        + Ideal.ofBits .f32 0x3CA3D70A#32
          * (at1 (res_main_while0b_v17 V) j * at1 (res_main_while0b_v17 V) j) := by
    unfold res_main_while0b_v21
    rw [h.theta]; rfl
  rw [e, h.var, diff_step h hk j hx, Cert.Spec.ofBits_theta, Cert.Spec.ofBits_one, Cert.Spec.var_succ]
  rw [← EReal.coe_sub, ← EReal.coe_mul, ← EReal.coe_mul, ← EReal.coe_mul, ← EReal.coe_add]

/-- The quotient the body computes is the normalised entry, where the variance is positive. -/
theorem norm_step (h : Inv X x m0 s0 k V) (hk : k < 32768) (j : Fin 1024)
    (hx : ∀ (k : Fin 32768) (j : Fin 1024), X (ix2 k j) = ((x j k.val : ℝ) : EReal))
    (hs : ∀ j, 0 < s0 j) :
    at1 (Host.divf (subf (res_main_while0b_v9 V) (res_main_while0b_v13 V)) (Host.sqrt (res_main_while0b_v21 V))) j
      = ((Cert.Spec.norm Cert.Spec.eta Cert.Spec.theta (x j) (m0 j) (s0 j) k : ℝ) : EReal) := by
  have e : at1 (Host.divf (subf (res_main_while0b_v9 V) (res_main_while0b_v13 V)) (Host.sqrt (res_main_while0b_v21 V))) j
      = Ideal.div (at1 (res_main_while0b_v17 V) j) (Ideal.sqrt (at1 (res_main_while0b_v21 V) j)) := rfl
  have hp := Cert.Spec.var_pos Cert.Spec.eta Cert.Spec.theta (x j) (m0 j) (s0 j) (hs j) Cert.Spec.theta_nonneg Cert.Spec.theta_lt_one (k + 1)
  rw [e, diff_step h hk j hx, var_step h hk j hx, Ideal.sqrt_coe, if_neg (not_lt.mpr hp.le),
    Ideal.div_coe (Real.sqrt_pos.mpr hp).ne', ← EReal.coe_mul]
  rfl

/-- A row spread to a block of one row. -/
theorem bcast_row (v : FVec Ideal S1024 .f32) (j : Fin 1024) :
    broadcastInDim S1x1024 ![1] bcast_S1024_S1x1024_1 v (ix2 0 j) = at1 v j := by
  unfold at1
  pointwise

/-- One trip of the loop keeps the invariant. -/
theorem Inv.step (h : Inv X x m0 s0 k V) (hk : k < 32768)
    (hx : ∀ (k : Fin 32768) (j : Fin 1024), X (ix2 k j) = ((x j k.val : ℝ) : EReal))
    (hs : ∀ j, 0 < s0 j) : Inv X x m0 s0 (k + 1) (STEP V) where
  arg := (STEP_main_v7_0 V).trans h.arg
  eta := (STEP_main_v7_1 V).trans h.eta
  theta := (STEP_main_v7_2 V).trans h.theta
  ctr := by
    rw [STEP_main_v7_3, step_main_v7_3, h.ctr]
    funext i
    show BitVec.ofNat 32 k + 1#32 = BitVec.ofNat 32 (k + 1)
    rw [BitVec.ofNat_add]
  mean j := by
    rw [STEP_main_v7_4]
    exact mean_step h hk j hx
  var j := by
    rw [STEP_main_v7_5]
    exact var_step h hk j hx
  norms r j hr := by
    rw [STEP_main_v7_6, step_main_v7_6]
    refine (dus_row _ _ _ updateFits_S32768x1024_S1x1024 k hk (start0 h hk) rfl r j).trans ?_
    split
    · next e => rw [bcast_row, norm_step h hk j hx hs, e]
    · exact h.norms r j (by omega)
  mus r j hr := by
    rw [STEP_main_v7_7, step_main_v7_7]
    refine (dus_row _ _ _ updateFits_S32768x1024_S1x1024 k hk (start0 h hk) rfl r j).trans ?_
    split
    · next e => rw [bcast_row, mean_step h hk j hx, e]
    · exact h.mus r j (by omega)
  vars r j hr := by
    rw [STEP_main_v7_8, step_main_v7_8]
    refine (dus_row _ _ _ updateFits_S32768x1024_S1x1024 k hk (start0 h hk) rfl r j).trans ?_
    split
    · next e => rw [bcast_row, var_step h hk j hx, e]
    · exact h.vars r j (by omega)

end Step

variable (m : (ℓ : Loc nD τ sig) → Buf (Elt Ideal) ℓ) (c : Dev nD) (x : Fin 1024 → ℕ → ℝ)

/-- After `k` trips from the loop's entry the invariant holds, started at the column's mean and deviation. -/
theorem inv_iterate (hx : ∀ (k : Fin 32768) (j : Fin 1024), argX m c (ix2 k j) = ((x j k.val : ℝ) : EReal))
    (hs : ∀ j, 0 < Cert.Spec.std 32768 (x j)) :
    ∀ k, k ≤ 32768 → Inv (argX m c) x (fun j => Cert.Spec.mean 32768 (x j)) (fun j => Cert.Spec.std 32768 (x j)) k
      (STEP^[k] (entryContents preI m c))
  | 0, _ =>
    { arg := entry_v7_0 m c
      eta := entry_v7_1 m c
      theta := entry_v7_2 m c
      ctr := ctr_entry m c
      mean := fun j => entry_mean (x j) j m c (fun k => hx k j)
      var := fun j => entry_dev (x j) j m c (fun k => hx k j)
      norms := fun _ _ h => absurd h (Nat.not_lt_zero _)
      mus := fun _ _ h => absurd h (Nat.not_lt_zero _)
      vars := fun _ _ h => absurd h (Nat.not_lt_zero _) }
  | k + 1, hk => by
    rw [Function.iterate_succ_apply']
    exact (inv_iterate hx hs k (by omega)).step (by omega) hx hs

end Cert.ReferenceIdeal.Value

end
-- ==== Proof.Val.RefResult.lean ====
module

public import proofs.«01_k».proof.Proof.Val.RefLoop
public import proofs.«01_k».proof.Proof.Val.Result
public import Idealize.ShloMosaic.Lib.Claim

@[expose] public section

set_option maxRecDepth 16384

noncomputable section

/-! The reference's two results. -/

namespace Cert.ReferenceIdeal.Value

open Idealize.ShloMosaic Idealize.ShloMosaic.TcCoe Idealize.SL.Sem Idealize.ShloMosaic.StableHlo
open Cert.ReferenceIdeal Cert.ReferenceIdeal.Facts Cert.ReferenceIdeal.Gen

/-- Two blocks side by side, at an index: the left block in the left half, the right block in the right. -/
theorem concat_apply (a b : FVec Ideal S32768x1024 .f32) (r : Fin 32768) (j : Fin 2048) :
    concatenate S32768x2048 1 [⟨S32768x1024, a⟩, ⟨S32768x1024, b⟩] concatenates_S32768x1024_S32768x1024_S32768x2048_d1 (ix2 r j)
      = if h : j.val < 1024 then at2 a r ⟨j.val, h⟩ else at2 b r ⟨j.val - 1024, by omega⟩ := by
  unfold at2
  pointwise

variable (m : (ℓ : Loc nD τ sig) → Buf (Elt Ideal) ℓ) (c : Dev nD) (x : Fin 1024 → ℕ → ℝ)

/-- The reference ends with both results at the specification's, whenever its argument's columns are real sequences of
    positive deviation. -/
theorem results (ρ : Dev nD → PrngReg) (x : Dev nD → Fin 1024 → ℕ → ℝ)
    (hx : ∀ (c : Dev nD) (k : Fin 32768) (j : Fin 1024), argX m c (ix2 k j) = ((x c j k.val : ℝ) : EReal))
    (hs : ∀ c j, 0 < Cert.Spec.std 32768 (x c j)) :
    θ_run (defs (F := Ideal)) (onTc (τ := τ) (main (F := Ideal))) ⟨m, fun _ => 0, ρ⟩ fun r => ∀ c : Dev nD,
      r.2.mem ((c.tc : Thread nD τ).loc main_v7_6) = (Cert.Spec.resNorm (x c) : FVec Ideal S32768x1024 .f32)
      ∧ r.2.mem ((c.tc : Thread nD τ).loc main_v8) = (Cert.Spec.resInfo (x c) : FVec Ideal S32768x2048 .f32)
      ∧ r.2.mem ((c.tc : Thread nD τ).loc main_arg0) = m ((c.tc : Thread nD τ).loc main_arg0) := by
  refine θ_run_mono (run m ρ) fun r h c => ?_
  have hI := inv_iterate m c (x c) (hx c) (hs c) 32768 le_rfl
  refine ⟨(h c).1.trans ?_, (h c).2.1.trans ?_, (h c).2.2⟩
  · funext i
    obtain ⟨a, b, rfl⟩ : ∃ (a : Fin 32768) (b : Fin 1024), i = ix2 a b := ⟨i 0, i 1, eq_ix2 i⟩
    exact hI.norms a b a.isLt
  · funext i
    obtain ⟨a, b, rfl⟩ : ∃ (a : Fin 32768) (b : Fin 2048), i = ix2 a b := ⟨i 0, i 1, eq_ix2 i⟩
    unfold out_main_v8
    refine (concat_apply _ _ a b).trans ?_
    unfold Cert.Spec.resInfo
    show _ = if h : b.val < 1024 then _ else _
    split
    · exact hI.mus a _ a.isLt
    · exact hI.vars a _ a.isLt

end Cert.ReferenceIdeal.Value

end
-- ==== Proof.Val.Algebraic.lean ====
module

public import proofs.«01_k».proof.Defs
public import proofs.«01_k».proof.Proof.Gen.Pre_finite_varied
public import proofs.«01_k».proof.Proof.Val.KernelResult
public import proofs.«01_k».proof.Proof.Val.RefResult
public import proofs.«01_k».proof.Proof.Val.Pre

@[expose] public section

noncomputable section

/-! Kernel and reference end with equal results. -/

namespace Cert.Proof

open Idealize.ShloMosaic Idealize.ShloMosaic.TcCoe Idealize.SL.Sem

/-- The column sequences of a core's argument. -/
def cols (m : (ℓ : Loc Cert.KernelIdeal.nD Cert.KernelIdeal.τ Cert.KernelIdeal.sig) → Buf (Elt Ideal) ℓ)
    (c : Dev Cert.KernelIdeal.nD) : Fin 1024 → ℕ → ℝ :=
  fun j => Cert.Spec.col (Cert.KernelIdeal.Whole.argK m c) j

/-- From equal arguments meeting the precondition, the kernel and the reference both end with the normalized rows and
    the states of the recurrence over the real numbers. -/
theorem algebraic [Cert.Pre_finite_varied.Facts] :
    Cert.algebraic_KernelIdeal_ReferenceIdeal_pre_finite_varied (hKernelIdeal := Cert.KernelIdeal.Gen.facts)
      (hReferenceIdeal := Cert.ReferenceIdeal.Gen.facts) := by
  intro m g m' g' hp he
  have hx : ∀ (c : Dev Cert.KernelIdeal.nD) (k : Fin 32768) (j : Fin 1024),
      Cert.KernelIdeal.Whole.argK m c (ix2 k j) = ((cols m c j k.val : ℝ) : EReal) :=
    fun c k j => Cert.Spec.real_of_pre (hp c) k j
  have hs : ∀ (c : Dev Cert.KernelIdeal.nD) (j : Fin 1024), 0 < Cert.Spec.std 32768 (cols m c j) := by
    intro c j
    obtain ⟨t, ht, hne⟩ := Cert.Spec.varied_of_pre (hp c) j
    exact Cert.Spec.std_pos 32768 (by norm_num) _ t ht hne
  refine ⟨fun c => Cert.Spec.resNorm (cols m c), fun c => Cert.Spec.resInfo (cols m c), ?_, ?_⟩
  · exact Cert.KernelIdeal.Whole.results m g (cols m) hx hs
  · exact Cert.ReferenceIdeal.Value.results m' g' (cols m)
      (fun c k j => (congrFun (he c) (ix2 k j)).trans (hx c k j)) hs

end Cert.Proof

end
-- ==== Proof.lean ====
/- The claims of the certificate, each from the module that proves it. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Run
public import proofs.«01_k».proof.Proof.Twin.Run
public import proofs.«01_k».proof.Proof.RefFrame
public import proofs.«01_k».proof.Proof.Gen.Pre_finite_varied
public import proofs.«01_k».proof.Proof.Val.Algebraic

@[expose] public section

noncomputable section

namespace Cert.Proof

open Idealize.ShloMosaic

/-- Every claim of the certificate, under the facts its programs state. -/
theorem claim : Cert.Claim := ⟨Cert.Kernel.Gen.facts, Cert.KernelIdeal.Gen.facts, Cert.ReferenceIdeal.Gen.facts,
  Cert.Pre_finite_varied.Gen.facts,
  fun m g _ => Cert.Kernel.Whole.frame m g,
  fun m g _ => Cert.KernelIdeal.Whole.frame m g,
  fun m g _ => Cert.KernelIdeal.Whole.frame m g,
  fun m g _ => Cert.ReferenceIdeal.Value.frame m g,
  fun m g _ => Cert.ReferenceIdeal.Value.frame m g,
  trivial,
  @algebraic Cert.Pre_finite_varied.Gen.facts⟩

end Cert.Proof

end
